-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_sliver [hPre_no_sliver : Cert.Pre_no_sliver.Facts] (m : (ℓ : Loc Cert.KernelIdeal.nD Cert.KernelIdeal.τ Cert.KernelIdeal.sig) → Buf (Elt Ideal) ℓ) : Prop :=
  ∀ c : Dev Cert.KernelIdeal.nD,
    (Cert.Pre_no_sliver.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_sliver [hPre_no_sliver : Cert.Pre_no_sliver.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_sliver.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_sliver [hKernelIdeal : Cert.KernelIdeal.Facts] [hPre_no_sliver : Cert.Pre_no_sliver.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_sliver m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_sliver [hReferenceIdeal : Cert.ReferenceIdeal.Facts] [hPre_no_sliver : Cert.Pre_no_sliver.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_sliver m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "pad" .f32 0xF149F2CA#32 ⊥
  ∧ IdealRules.named_const.Statement Cert.KernelIdeal.κ "ratio" .f32 0x3E6C4EC5#32 ((5033165 / 21810381 : ℝ) : EReal)

def algebraic_KernelIdeal_ReferenceIdeal_pre_no_sliver [hKernelIdeal : Cert.KernelIdeal.Facts] [hReferenceIdeal : Cert.ReferenceIdeal.Facts] [hPre_no_sliver : Cert.Pre_no_sliver.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_sliver m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_no_sliver : Cert.Pre_no_sliver.Facts),
    quiescent_Kernel (hKernel := hKernel)
    ∧ quiescent_KernelIdeal (hKernelIdeal := hKernelIdeal)
    ∧ quiescent_KernelIdeal_pre_no_sliver (hKernelIdeal := hKernelIdeal) (hPre_no_sliver := hPre_no_sliver)
    ∧ quiescent_ReferenceIdeal (hReferenceIdeal := hReferenceIdeal)
    ∧ quiescent_ReferenceIdeal_pre_no_sliver (hReferenceIdeal := hReferenceIdeal) (hPre_no_sliver := hPre_no_sliver)
    ∧ preserves_Kernel_KernelIdeal
    ∧ algebraic_KernelIdeal_ReferenceIdeal_pre_no_sliver (hKernelIdeal := hKernelIdeal) (hReferenceIdeal := hReferenceIdeal) (hPre_no_sliver := hPre_no_sliver)
-- ==== Pre_no_sliver.lean ====
abbrev S1000x4 : Shape := ⟨2, ![1000, 4]⟩
abbrev S1000x84 : Shape := ⟨2, ![1000, 84]⟩
abbrev S1000x21 : Shape := ⟨2, ![1000, 21]⟩
abbrev S1000x21x4 : Shape := ⟨3, ![1000, 21, 4]⟩
abbrev S1000x20x4 : Shape := ⟨3, ![1000, 20, 4]⟩
abbrev S1000x1 : Shape := ⟨2, ![1000, 1]⟩
abbrev S1000x20 : Shape := ⟨2, ![1000, 20]⟩
abbrev S1000x20x1 : Shape := ⟨3, ![1000, 20, 1]⟩
abbrev S_ : Shape := ⟨0, ![]⟩

class Facts : Prop where
  shapeCasts_S1000x84_S1000x21x4 : S1000x84.ShapeCasts S1000x21x4
  slices_S1000x21x4_S1000x20x4_0_1_0 : S1000x21x4.Slices ![0, 1, 0] S1000x20x4
  slices_S1000x4_S1000x1_0_0 : S1000x4.Slices ![0, 0] S1000x1
  bcast_S1000x1_S1000x20_0_1 : S1000x1.BroadcastsInDim S1000x20 (![0, 1] : Fin 2 → Fin S1000x20.rank)
  slices_S1000x4_S1000x1_0_1 : S1000x4.Slices ![0, 1] S1000x1
  slices_S1000x4_S1000x1_0_2 : S1000x4.Slices ![0, 2] S1000x1
  slices_S1000x4_S1000x1_0_3 : S1000x4.Slices ![0, 3] S1000x1
  slices_S1000x20x4_S1000x20x1_0_0_0 : S1000x20x4.Slices ![0, 0, 0] S1000x20x1
  shapeCasts_S1000x20x1_S1000x20 : S1000x20x1.ShapeCasts S1000x20
  slices_S1000x20x4_S1000x20x1_0_0_1 : S1000x20x4.Slices ![0, 0, 1] S1000x20x1
  slices_S1000x20x4_S1000x20x1_0_0_2 : S1000x20x4.Slices ![0, 0, 2] S1000x20x1
  slices_S1000x20x4_S1000x20x1_0_0_3 : S1000x20x4.Slices ![0, 0, 3] S1000x20x1
  bcast_S_S1000x20 : S_.BroadcastsInDim S1000x20 (![] : Fin 0 → Fin S1000x20.rank)

variable [Facts]

def fn_part3 {F : FTy → Type} [FloatOps F] (main_v40 : FVec F S1000x20 .f32) (main_v47 : FVec F S1000x20 .f32) (main_v54 : FVec F S1000x20 .f32) (main_v57 : FVec F S1000x20 .f32) (main_v58 : FVec F S1000x20 .f32) : IVec S1000x20 1 :=
  let main_v59 : FVec F S1000x20 .f32 := maximumf main_v57 main_v58
  let main_cst_12 : FVec F S_ .f32 := constant S_ .f32 0x44480000#32
  let main_v60 : FVec F S1000x20 .f32 := broadcastInDim S1000x20 ![] bcast_S_S1000x20 main_cst_12
  let main_v61 : FVec F S1000x20 .f32 := minimumf main_v59 main_v60
  let main_v62 : FVec F S1000x20 .f32 := subf main_v54 main_v40
  let main_cst_13 : FVec F S_ .f32 := constant S_ .f32 0x00000000#32
  let main_v63 : FVec F S1000x20 .f32 := broadcastInDim S1000x20 ![] bcast_S_S1000x20 main_cst_13
  let main_v64 : FVec F S1000x20 .f32 := maximumf main_v62 main_v63
  let main_v65 : FVec F S1000x20 .f32 := subf main_v61 main_v47
  let main_cst_14 : FVec F S_ .f32 := constant S_ .f32 0x00000000#32
  let main_v66 : FVec F S1000x20 .f32 := broadcastInDim S1000x20 ![] bcast_S_S1000x20 main_cst_14
  let main_v67 : FVec F S1000x20 .f32 := maximumf main_v65 main_v66
  let main_v68 : FVec F S1000x20 .f32 := mulf main_v64 main_v67
  let main_cst_15 : FVec F S_ .f32 := constant S_ .f32 0x00000000#32
  let main_v69 : FVec F S1000x20 .f32 := broadcastInDim S1000x20 ![] bcast_S_S1000x20 main_cst_15
  let main_v70 : IVec S1000x20 1 := cmpf .oeq main_v68 main_v69
  let main_cst_16 : FVec F S_ .f32 := constant S_ .f32 0x322BCC77#32
  let main_v71 : FVec F S1000x20 .f32 := broadcastInDim S1000x20 ![] bcast_S_S1000x20 main_cst_16
  let main_v72 : IVec S1000x20 1 := cmpf .oge main_v68 main_v71
  let main_v73 : IVec S1000x20 1 := ori main_v70 main_v72
  main_v73

def fn_part2 {F : FTy → Type} [FloatOps F] (main_v24 : FVec F S1000x20 .f32) (main_v29 : FVec F S1000x20 .f32) (main_v31 : FVec F S1000x20 .f32) (main_v33 : FVec F S1000x20 .f32) (main_v40 : FVec F S1000x20 .f32) (main_v41 : FVec F S1000x20 .f32) : IVec S1000x20 1 :=
  let main_v42 : FVec F S1000x20 .f32 := mulf main_v41 main_v33
  let main_v43 : FVec F S1000x20 .f32 := subf main_v29 main_v42
  let main_cst_5 : FVec F S_ .f32 := constant S_ .f32 0x00000000#32
  let main_v44 : FVec F S1000x20 .f32 := broadcastInDim S1000x20 ![] bcast_S_S1000x20 main_cst_5
  let main_v45 : FVec F S1000x20 .f32 := maximumf main_v43 main_v44
  let main_cst_6 : FVec F S_ .f32 := constant S_ .f32 0x44480000#32
  let main_v46 : FVec F S1000x20 .f32 := broadcastInDim S1000x20 ![] bcast_S_S1000x20 main_cst_6
  let main_v47 : FVec F S1000x20 .f32 := minimumf main_v45 main_v46
  let main_cst_7 : FVec F S_ .f32 := constant S_ .f32 0x3F000000#32
  let main_v48 : FVec F S1000x20 .f32 := broadcastInDim S1000x20 ![] bcast_S_S1000x20 main_cst_7
  let main_v49 : FVec F S1000x20 .f32 := mulf main_v48 main_v31
  let main_v50 : FVec F S1000x20 .f32 := addf main_v24 main_v49
  let main_cst_8 : FVec F S_ .f32 := constant S_ .f32 0x00000000#32
  let main_v51 : FVec F S1000x20 .f32 := broadcastInDim S1000x20 ![] bcast_S_S1000x20 main_cst_8
  let main_v52 : FVec F S1000x20 .f32 := maximumf main_v50 main_v51
  let main_cst_9 : FVec F S_ .f32 := constant S_ .f32 0x44160000#32
  let main_v53 : FVec F S1000x20 .f32 := broadcastInDim S1000x20 ![] bcast_S_S1000x20 main_cst_9
  let main_v54 : FVec F S1000x20 .f32 := minimumf main_v52 main_v53
  let main_cst_10 : FVec F S_ .f32 := constant S_ .f32 0x3F000000#32
  let main_v55 : FVec F S1000x20 .f32 := broadcastInDim S1000x20 ![] bcast_S_S1000x20 main_cst_10
  let main_v56 : FVec F S1000x20 .f32 := mulf main_v55 main_v33
  let main_v57 : FVec F S1000x20 .f32 := addf main_v29 main_v56
  let main_cst_11 : FVec F S_ .f32 := constant S_ .f32 0x00000000#32
  let main_v58 : FVec F S1000x20 .f32 := broadcastInDim S1000x20 ![] bcast_S_S1000x20 main_cst_11
  fn_part3 (F := F) main_v40 main_v47 main_v54 main_v57 main_v58

def fn_part1 {F : FTy → Type} [FloatOps F] (main_v3 : FVec F S1000x20 .f32) (main_v5 : FVec F S1000x20 .f32) (main_v13 : FVec F S1000x20 .f32) (main_v15 : FVec F S1000x20 .f32) (main_v17 : FVec F S1000x20 .f32) (main_v18 : FVec F S1000x20 .f32) (main_v19 : FVec F S1000x20 .f32) (main_v20 : FVec F S1000x20 .f32) (main_v22 : FVec F S1000x20 .f32) : IVec S1000x20 1 :=
  let main_v23 : FVec F S1000x20 .f32 := addf main_v3 main_v22
  let main_v24 : FVec F S1000x20 .f32 := addf main_v20 main_v23
  let main_v25 : FVec F S1000x20 .f32 := mulf main_v13 main_v19
  let main_cst_0 : FVec F S_ .f32 := constant S_ .f32 0x3F000000#32
  let main_v26 : FVec F S1000x20 .f32 := broadcastInDim S1000x20 ![] bcast_S_S1000x20 main_cst_0
  let main_v27 : FVec F S1000x20 .f32 := mulf main_v26 main_v19
  let main_v28 : FVec F S1000x20 .f32 := addf main_v5 main_v27
  let main_v29 : FVec F S1000x20 .f32 := addf main_v25 main_v28
  let main_v30 : FVec F S1000x20 .f32 := Host.exp main_v15
  let main_v31 : FVec F S1000x20 .f32 := mulf main_v30 main_v18
  let main_v32 : FVec F S1000x20 .f32 := Host.exp main_v17
  let main_v33 : FVec F S1000x20 .f32 := mulf main_v32 main_v19
  let main_cst_1 : FVec F S_ .f32 := constant S_ .f32 0x3F000000#32
  let main_v34 : FVec F S1000x20 .f32 := broadcastInDim S1000x20 ![] bcast_S_S1000x20 main_cst_1
  let main_v35 : FVec F S1000x20 .f32 := mulf main_v34 main_v31
  let main_v36 : FVec F S1000x20 .f32 := subf main_v24 main_v35
  let main_cst_2 : FVec F S_ .f32 := constant S_ .f32 0x00000000#32
  let main_v37 : FVec F S1000x20 .f32 := broadcastInDim S1000x20 ![] bcast_S_S1000x20 main_cst_2
  let main_v38 : FVec F S1000x20 .f32 := maximumf main_v36 main_v37
  let main_cst_3 : FVec F S_ .f32 := constant S_ .f32 0x44160000#32
  let main_v39 : FVec F S1000x20 .f32 := broadcastInDim S1000x20 ![] bcast_S_S1000x20 main_cst_3
  let main_v40 : FVec F S1000x20 .f32 := minimumf main_v38 main_v39
  let main_cst_4 : FVec F S_ .f32 := constant S_ .f32 0x3F000000#32
  let main_v41 : FVec F S1000x20 .f32 := broadcastInDim S1000x20 ![] bcast_S_S1000x20 main_cst_4
  fn_part2 (F := F) main_v24 main_v29 main_v31 main_v33 main_v40 main_v41

def fn {F : FTy → Type} [FloatOps F] (main_arg0 : FVec F S1000x4 .f32) (main_arg1 : FVec F S1000x84 .f32) (main_arg2 : FVec F S1000x21 .f32) : IVec S1000x20 1 :=
  let main_v0 : FVec F S1000x21x4 .f32 := shapeCast S1000x21x4 main_arg1 shapeCasts_S1000x84_S1000x21x4
  let main_v1 : FVec F S1000x20x4 .f32 := (extractStridedSlice S1000x20x4 ![0, 1, 0] · slices_S1000x21x4_S1000x20x4_0_1_0) main_v0
  let main_v2 : FVec F S1000x1 .f32 := (extractStridedSlice S1000x1 ![0, 0] · slices_S1000x4_S1000x1_0_0) main_arg0
  let main_v3 : FVec F S1000x20 .f32 := broadcastInDim S1000x20 ![0, 1] bcast_S1000x1_S1000x20_0_1 main_v2
  let main_v4 : FVec F S1000x1 .f32 := (extractStridedSlice S1000x1 ![0, 1] · slices_S1000x4_S1000x1_0_1) main_arg0
  let main_v5 : FVec F S1000x20 .f32 := broadcastInDim S1000x20 ![0, 1] bcast_S1000x1_S1000x20_0_1 main_v4
  let main_v6 : FVec F S1000x1 .f32 := (extractStridedSlice S1000x1 ![0, 2] · slices_S1000x4_S1000x1_0_2) main_arg0
  let main_v7 : FVec F S1000x20 .f32 := broadcastInDim S1000x20 ![0, 1] bcast_S1000x1_S1000x20_0_1 main_v6
  let main_v8 : FVec F S1000x1 .f32 := (extractStridedSlice S1000x1 ![0, 3] · slices_S1000x4_S1000x1_0_3) main_arg0
  let main_v9 : FVec F S1000x20 .f32 := broadcastInDim S1000x20 ![0, 1] bcast_S1000x1_S1000x20_0_1 main_v8
  let main_v10 : FVec F S1000x20x1 .f32 := (extractStridedSlice S1000x20x1 ![0, 0, 0] · slices_S1000x20x4_S1000x20x1_0_0_0) main_v1
  let main_v11 : FVec F S1000x20 .f32 := shapeCast S1000x20 main_v10 shapeCasts_S1000x20x1_S1000x20
  let main_v12 : FVec F S1000x20x1 .f32 := (extractStridedSlice S1000x20x1 ![0, 0, 1] · slices_S1000x20x4_S1000x20x1_0_0_1) main_v1
  let main_v13 : FVec F S1000x20 .f32 := shapeCast S1000x20 main_v12 shapeCasts_S1000x20x1_S1000x20
  let main_v14 : FVec F S1000x20x1 .f32 := (extractStridedSlice S1000x20x1 ![0, 0, 2] · slices_S1000x20x4_S1000x20x1_0_0_2) main_v1
  let main_v15 : FVec F S1000x20 .f32 := shapeCast S1000x20 main_v14 shapeCasts_S1000x20x1_S1000x20
  let main_v16 : FVec F S1000x20x1 .f32 := (extractStridedSlice S1000x20x1 ![0, 0, 3] · slices_S1000x20x4_S1000x20x1_0_0_3) main_v1
  let main_v17 : FVec F S1000x20 .f32 := shapeCast S1000x20 main_v16 shapeCasts_S1000x20x1_S1000x20
  let main_v18 : FVec F S1000x20 .f32 := subf main_v7 main_v3
  let main_v19 : FVec F S1000x20 .f32 := subf main_v9 main_v5
  let main_v20 : FVec F S1000x20 .f32 := mulf main_v11 main_v18
  let main_cst : FVec F S_ .f32 := constant S_ .f32 0x3F000000#32
  let main_v21 : FVec F S1000x20 .f32 := broadcastInDim S1000x20 ![] bcast_S_S1000x20 main_cst
  let main_v22 : FVec F S1000x20 .f32 := mulf main_v21 main_v18
  fn_part1 (F := F) main_v3 main_v5 main_v13 main_v15 main_v17 main_v18 main_v19 main_v20 main_v22
-- ==== Kernel.lean ====
abbrev S1000x4 : Shape := ⟨2, ![1000, 4]⟩
abbrev S1000x84 : Shape := ⟨2, ![1000, 84]⟩
abbrev S1000x21 : Shape := ⟨2, ![1000, 21]⟩
abbrev S20x1000x4 : Shape := ⟨3, ![20, 1000, 4]⟩
abbrev S20x1x1000 : Shape := ⟨3, ![20, 1, 1000]⟩
abbrev S20x1000 : Shape := ⟨2, ![20, 1000]⟩
abbrev S5x1000x4 : Shape := ⟨3, ![5, 1000, 4]⟩
abbrev S5x1x1000 : Shape := ⟨3, ![5, 1, 1000]⟩
abbrev S21x4x1024 : Shape := ⟨3, ![21, 4, 1024]⟩
abbrev S24x1024 : Shape := ⟨2, ![24, 1024]⟩
abbrev S8x1024 : Shape := ⟨2, ![8, 1024]⟩
abbrev S84x1000 : Shape := ⟨2, ![84, 1000]⟩
abbrev S21x4x1000 : Shape := ⟨3, ![21, 4, 1000]⟩
abbrev S21x1000 : Shape := ⟨2, ![21, 1000]⟩
abbrev S4x1000 : Shape := ⟨2, ![4, 1000]⟩
abbrev S1024 : Shape := ⟨1, ![1024]⟩
abbrev S1x1024 : Shape := ⟨2, ![1, 1024]⟩
abbrev S128x1 : Shape := ⟨2, ![128, 1]⟩
abbrev S1x128 : Shape := ⟨2, ![1, 128]⟩
abbrev S128x128 : Shape := ⟨2, ![128, 128]⟩
abbrev S1x4x1024 : Shape := ⟨3, ![1, 4, 1024]⟩
abbrev S4x1024 : Shape := ⟨2, ![4, 1024]⟩
abbrev S1024x8 : Shape := ⟨2, ![1024, 8]⟩
abbrev S128x8 : Shape := ⟨2, ![128, 8]⟩
abbrev S128 : Shape := ⟨1, ![128]⟩
abbrev S1x1000x4 : Shape := ⟨3, ![1, 1000, 4]⟩
abbrev S1x1000 : Shape := ⟨2, ![1, 1000]⟩
abbrev S1x1x1000 : Shape := ⟨3, ![1, 1, 1000]⟩

abbrev nBuf : Space → Nat
  | .hbm => 6
  | .vmem => 10
  | .smem => 0
  | _ => 0

abbrev bufTy : (tb : Table) → Fin (tcTables nBuf tb) → BufTy
  | .hbm, ⟨0, _⟩ => ⟨S1000x4, .f32⟩
  | .hbm, ⟨1, _⟩ => ⟨S1000x84, .f32⟩
  | .hbm, ⟨2, _⟩ => ⟨S1000x21, .f32⟩
  | .hbm, ⟨3, _⟩ => ⟨S20x1000x4, .f32⟩
  | .hbm, ⟨4, _⟩ => ⟨S20x1x1000, .f32⟩
  | .hbm, ⟨5, _⟩ => ⟨S20x1000, .f32⟩
  | .local _ .vmem, ⟨0, _⟩ => ⟨S1000x4, .f32⟩
  | .local _ .vmem, ⟨1, _⟩ => ⟨S1000x84, .f32⟩
  | .local _ .vmem, ⟨2, _⟩ => ⟨S1000x21, .f32⟩
  | .local _ .vmem, ⟨3, _⟩ => ⟨S5x1000x4, .f32⟩
  | .local _ .vmem, ⟨4, _⟩ => ⟨S5x1000x4, .f32⟩
  | .local _ .vmem, ⟨5, _⟩ => ⟨S5x1x1000, .f32⟩
  | .local _ .vmem, ⟨6, _⟩ => ⟨S5x1x1000, .f32⟩
  | .local _ .vmem, ⟨7, _⟩ => ⟨S21x4x1024, .f32⟩
  | .local _ .vmem, ⟨8, _⟩ => ⟨S24x1024, .f32⟩
  | .local _ .vmem, ⟨9, _⟩ => ⟨S8x1024, .f32⟩
  | _, _ => ⟨S1000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_call0_v0_1 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_3 : BitVec 32 := 0#32
  let c5_i32 : BitVec 32 := 5#32
  let v21 : BitVec 32 := Scalar.addi c0_i32_3 c5_i32
  let c1_i32 : BitVec 32 := 1#32
  ⟨c0_i32_3, v21, c1_i32⟩
def k0_off1 (i : grid0.Coords) (k0_t1 : Fin k0_t1_loop.trips) : Fin 3 → Nat :=
  let arg0 : BitVec 32 := BitVec.ofNat 32 (i 0).val
  let c5_i32_5 : BitVec 32 := 5#32
  let v22 : BitVec 32 := Scalar.muli arg0 c5_i32_5
  let c0_i32_3 : BitVec 32 := 0#32
  let c1_i32 : BitVec 32 := 1#32
  let arg9 : BitVec 32 := Scf.iv c0_i32_3 c1_i32 k0_t1
  let v23 : BitVec 32 := Scalar.addi v22 arg9
  let c1_i32_6 : BitVec 32 := 1#32
  let v24 : BitVec 32 := Scalar.addi v23 c1_i32_6
  let v25 : Index := Scalar.indexCast v24
  let c0_7 : Index := 0#32
  let c0_8 : Index := 0#32
  ![v25.toNat, 0, 0]
def k0_off2 (i : grid0.Coords) (k0_t1 : Fin k0_t1_loop.trips) : Fin 2 → Nat :=
  let arg0 : BitVec 32 := BitVec.ofNat 32 (i 0).val
  let c5_i32_5 : BitVec 32 := 5#32
  let v22 : BitVec 32 := Scalar.muli arg0 c5_i32_5
  let c0_i32_3 : BitVec 32 := 0#32
  let c1_i32 : BitVec 32 := 1#32
  let arg9 : BitVec 32 := Scf.iv c0_i32_3 c1_i32 k0_t1
  let v23 : BitVec 32 := Scalar.addi v22 arg9
  let c1_i32_6 : BitVec 32 := 1#32
  let v24 : BitVec 32 := Scalar.addi v23 c1_i32_6
  let v32 : Index := Scalar.indexCast v24
  let c0_9 : Index := 0#32
  ![v32.toNat, 0]
def k0_off3 (k0_t1 : Fin k0_t1_loop.trips) : Fin 3 → Nat :=
  let c0_i32_3 : BitVec 32 := 0#32
  let c1_i32 : BitVec 32 := 1#32
  let arg9 : BitVec 32 := Scf.iv c0_i32_3 c1_i32 k0_t1
  let v2806 : Index := Scalar.indexCast arg9
  let c0_414 : Index := 0#32
  let c0_415 : Index := 0#32
  ![v2806.toNat, 0, 0]
def k0_off4 (k0_t1 : Fin k0_t1_loop.trips) : Fin 3 → Nat :=
  let c0_i32_3 : BitVec 32 := 0#32
  let c1_i32 : BitVec 32 := 1#32
  let arg9 : BitVec 32 := Scf.iv c0_i32_3 c1_i32 k0_t1
  let v2810 : Index := Scalar.indexCast arg9
  let c0_416 : Index := 0#32
  let c0_417 : Index := 0#32
  ![v2810.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1000x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1000x84 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5x1000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5x1x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "pad" => some ⊥
  | "ratio" => some ((5033165 / 21810381 : ℝ) : EReal)
  | _ => none
-- ==== ReferenceIdeal.lean ====
abbrev S1000x4 : Shape := ⟨2, ![1000, 4]⟩
abbrev S1000x84 : Shape := ⟨2, ![1000, 84]⟩
abbrev S1000x21 : Shape := ⟨2, ![1000, 21]⟩
abbrev S_ : Shape := ⟨0, ![]⟩
abbrev S1000 : Shape := ⟨1, ![1000]⟩
abbrev S1000x1 : Shape := ⟨2, ![1000, 1]⟩
abbrev S1000x21x4 : Shape := ⟨3, ![1000, 21, 4]⟩
abbrev S1000x20x4 : Shape := ⟨3, ![1000, 20, 4]⟩
abbrev S1000x20x1 : Shape := ⟨3, ![1000, 20, 1]⟩
abbrev S1000x20 : Shape := ⟨2, ![1000, 20]⟩
abbrev S20x1000 : Shape := ⟨2, ![20, 1000]⟩
abbrev S1x1000 : Shape := ⟨2, ![1, 1000]⟩
abbrev S20x1000x1 : Shape := ⟨3, ![20, 1000, 1]⟩
abbrev S20x1000x4 : Shape := ⟨3, ![20, 1000, 4]⟩
abbrev S20x1x1000 : Shape := ⟨3, ![20, 1, 1000]⟩
abbrev S20x1000x1000 : Shape := ⟨3, ![20, 1000, 1000]⟩
abbrev S1000x1000 : Shape := ⟨2, ![1000, 1000]⟩
abbrev S20 : Shape := ⟨1, ![20]⟩
abbrev S20x1 : Shape := ⟨2, ![20, 1]⟩
abbrev S20x1000x2 : Shape := ⟨3, ![20, 1000, 2]⟩

abbrev nBuf : Space → Nat
  | .hbm => 284
  | .vmem => 0
  | .smem => 0
  | _ => 0

abbrev hbmTy0_0 (i : Nat) : BufTy := match i % 128 with
  | 0 => ⟨S1000x4, .f32⟩
  | 1 => ⟨S1000x84, .f32⟩
  | 2 => ⟨S1000x21, .f32⟩
  | 3 => ⟨S_, .f32⟩
  | 4 => ⟨S1000, .f32⟩
  | 5 => ⟨S_, .f32⟩
  | 6 => ⟨S1000, .f32⟩
  | 7 => ⟨S1000, .f32⟩
  | 8 => ⟨S1000x1, .f32⟩
  | 9 => ⟨S1000x21, .f32⟩
  | 10 => ⟨S1000x21, .f32⟩
  | 11 => ⟨S1000x21, .f32⟩
  | 12 => ⟨S_, .f32⟩
  | 13 => ⟨S1000, .f32⟩
  | 14 => ⟨S1000x1, .f32⟩
  | 15 => ⟨S1000x21, .f32⟩
  | 16 => ⟨S1000x21, .f32⟩
  | 17 => ⟨S1000x21x4, .f32⟩
  | 18 => ⟨S1000x20x4, .f32⟩
  | 19 => ⟨S1000x1, .f32⟩
  | 20 => ⟨S1000, .f32⟩
  | 21 => ⟨S1000x1, .f32⟩
  | 22 => ⟨S1000, .f32⟩
  | 23 => ⟨S1000, .f32⟩
  | 24 => ⟨S1000x1, .f32⟩
  | 25 => ⟨S1000, .f32⟩
  | 26 => ⟨S1000x1, .f32⟩
  | 27 => ⟨S1000, .f32⟩
  | 28 => ⟨S1000, .f32⟩
  | 29 => ⟨S1000x1, .f32⟩
  | 30 => ⟨S1000, .f32⟩
  | 31 => ⟨S_, .f32⟩
  | 32 => ⟨S1000, .f32⟩
  | 33 => ⟨S1000, .f32⟩
  | 34 => ⟨S1000, .f32⟩
  | 35 => ⟨S1000x1, .f32⟩
  | 36 => ⟨S1000, .f32⟩
  | 37 => ⟨S_, .f32⟩
  | 38 => ⟨S1000, .f32⟩
  | 39 => ⟨S1000, .f32⟩
  | 40 => ⟨S1000, .f32⟩
  | 41 => ⟨S1000x20x1, .f32⟩
  | 42 => ⟨S1000x20, .f32⟩
  | 43 => ⟨S20x1000, .f32⟩
  | 44 => ⟨S1000x20x1, .f32⟩
  | 45 => ⟨S1000x20, .f32⟩
  | 46 => ⟨S20x1000, .f32⟩
  | 47 => ⟨S1000x20x1, .f32⟩
  | 48 => ⟨S1000x20, .f32⟩
  | 49 => ⟨S20x1000, .f32⟩
  | 50 => ⟨S1000x20x1, .f32⟩
  | 51 => ⟨S1000x20, .f32⟩
  | 52 => ⟨S20x1000, .f32⟩
  | 53 => ⟨S1x1000, .f32⟩
  | 54 => ⟨S20x1000, .f32⟩
  | 55 => ⟨S20x1000, .f32⟩
  | 56 => ⟨S1x1000, .f32⟩
  | 57 => ⟨S20x1000, .f32⟩
  | 58 => ⟨S20x1000, .f32⟩
  | 59 => ⟨S1x1000, .f32⟩
  | 60 => ⟨S20x1000, .f32⟩
  | 61 => ⟨S20x1000, .f32⟩
  | 62 => ⟨S1x1000, .f32⟩
  | 63 => ⟨S20x1000, .f32⟩
  | 64 => ⟨S20x1000, .f32⟩
  | 65 => ⟨S20x1000, .f32⟩
  | 66 => ⟨S1x1000, .f32⟩
  | 67 => ⟨S20x1000, .f32⟩
  | 68 => ⟨S20x1000, .f32⟩
  | 69 => ⟨S20x1000, .f32⟩
  | 70 => ⟨S1x1000, .f32⟩
  | 71 => ⟨S20x1000, .f32⟩
  | 72 => ⟨S20x1000, .f32⟩
  | 73 => ⟨S_, .f32⟩
  | 74 => ⟨S20x1000, .f32⟩
  | 75 => ⟨S20x1000, .f32⟩
  | 76 => ⟨S20x1000, .f32⟩
  | 77 => ⟨S_, .f32⟩
  | 78 => ⟨S_, .f32⟩
  | 79 => ⟨S_, .f32⟩
  | 80 => ⟨S20x1000, .f32⟩
  | 81 => ⟨S20x1000, .f32⟩
  | 82 => ⟨S_, .f32⟩
  | 83 => ⟨S20x1000, .f32⟩
  | 84 => ⟨S20x1000, .f32⟩
  | 85 => ⟨S_, .f32⟩
  | 86 => ⟨S20x1000, .f32⟩
  | 87 => ⟨S20x1000, .f32⟩
  | 88 => ⟨S20x1000, .f32⟩
  | 89 => ⟨S_, .f32⟩
  | 90 => ⟨S_, .f32⟩
  | 91 => ⟨S_, .f32⟩
  | 92 => ⟨S20x1000, .f32⟩
  | 93 => ⟨S20x1000, .f32⟩
  | 94 => ⟨S_, .f32⟩
  | 95 => ⟨S20x1000, .f32⟩
  | 96 => ⟨S20x1000, .f32⟩
  | 97 => ⟨S_, .f32⟩
  | 98 => ⟨S20x1000, .f32⟩
  | 99 => ⟨S20x1000, .f32⟩
  | 100 => ⟨S20x1000, .f32⟩
  | 101 => ⟨S_, .f32⟩
  | 102 => ⟨S_, .f32⟩
  | 103 => ⟨S_, .f32⟩
  | 104 => ⟨S20x1000, .f32⟩
  | 105 => ⟨S20x1000, .f32⟩
  | 106 => ⟨S_, .f32⟩
  | 107 => ⟨S20x1000, .f32⟩
  | 108 => ⟨S20x1000, .f32⟩
  | 109 => ⟨S_, .f32⟩
  | 110 => ⟨S20x1000, .f32⟩
  | 111 => ⟨S20x1000, .f32⟩
  | 112 => ⟨S20x1000, .f32⟩
  | 113 => ⟨S_, .f32⟩
  | 114 => ⟨S_, .f32⟩
  | 115 => ⟨S_, .f32⟩
  | 116 => ⟨S20x1000, .f32⟩
  | 117 => ⟨S20x1000, .f32⟩
  | 118 => ⟨S_, .f32⟩
  | 119 => ⟨S20x1000, .f32⟩
  | 120 => ⟨S20x1000, .f32⟩
  | 121 => ⟨S20x1000x1, .f32⟩
  | 122 => ⟨S20x1000x1, .f32⟩
  | 123 => ⟨S20x1000x1, .f32⟩
  | 124 => ⟨S20x1000x1, .f32⟩
  | 125 => ⟨S20x1000x4, .f32⟩
  | 126 => ⟨S1000x20, .f32⟩
  | 127 => ⟨S20x1000, .f32⟩
  | _ => ⟨S1000x4, .f32⟩

abbrev hbmTy0_1 (i : Nat) : BufTy := match i % 128 with
  | 0 => ⟨S_, .f32⟩
  | 1 => ⟨S20x1000, .f32⟩
  | 2 => ⟨S20x1000, .i1⟩
  | 3 => ⟨S_, .f32⟩
  | 4 => ⟨S_, .f32⟩
  | 5 => ⟨S20x1000, .f32⟩
  | 6 => ⟨S20x1000, .f32⟩
  | 7 => ⟨S20x1000, .f32⟩
  | 8 => ⟨S20x1000, .i32⟩
  | 9 => ⟨S20x1000, .f32⟩
  | 10 => ⟨S20x1000, .i32⟩
  | 11 => ⟨S_, .i32⟩
  | 12 => ⟨S20x1000, .i32⟩
  | 13 => ⟨S20x1000, .i1⟩
  | 14 => ⟨S_, .i32⟩
  | 15 => ⟨S20x1000, .i32⟩
  | 16 => ⟨S20x1000, .i32⟩
  | 17 => ⟨S20x1000, .i32⟩
  | 18 => ⟨S20x1000x1, .i32⟩
  | 19 => ⟨S20x1000, .f32⟩
  | 20 => ⟨S_, .i32⟩
  | 21 => ⟨S20x1000, .i32⟩
  | 22 => ⟨S20x1000, .i1⟩
  | 23 => ⟨S_, .i32⟩
  | 24 => ⟨S20x1000, .i32⟩
  | 25 => ⟨S20x1000, .i32⟩
  | 26 => ⟨S20x1000, .i32⟩
  | 27 => ⟨S20x1000x1, .i32⟩
  | 28 => ⟨S20x1000, .f32⟩
  | 29 => ⟨S_, .i32⟩
  | 30 => ⟨S20x1000, .i32⟩
  | 31 => ⟨S20x1000, .i1⟩
  | 32 => ⟨S_, .i32⟩
  | 33 => ⟨S20x1000, .i32⟩
  | 34 => ⟨S20x1000, .i32⟩
  | 35 => ⟨S20x1000, .i32⟩
  | 36 => ⟨S20x1000x1, .i32⟩
  | 37 => ⟨S20x1000, .f32⟩
  | 38 => ⟨S_, .i32⟩
  | 39 => ⟨S20x1000, .i32⟩
  | 40 => ⟨S20x1000, .i1⟩
  | 41 => ⟨S_, .i32⟩
  | 42 => ⟨S20x1000, .i32⟩
  | 43 => ⟨S20x1000, .i32⟩
  | 44 => ⟨S20x1000, .i32⟩
  | 45 => ⟨S20x1000x1, .i32⟩
  | 46 => ⟨S20x1000, .f32⟩
  | 47 => ⟨S_, .i32⟩
  | 48 => ⟨S20x1000, .i32⟩
  | 49 => ⟨S20x1000, .i1⟩
  | 50 => ⟨S_, .i32⟩
  | 51 => ⟨S20x1000, .i32⟩
  | 52 => ⟨S20x1000, .i32⟩
  | 53 => ⟨S20x1000, .i32⟩
  | 54 => ⟨S20x1000x1, .i32⟩
  | 55 => ⟨S20x1000, .f32⟩
  | 56 => ⟨S20x1000, .f32⟩
  | 57 => ⟨S_, .f32⟩
  | 58 => ⟨S20x1000, .f32⟩
  | 59 => ⟨S20x1000, .f32⟩
  | 60 => ⟨S20x1000, .f32⟩
  | 61 => ⟨S_, .f32⟩
  | 62 => ⟨S20x1000, .f32⟩
  | 63 => ⟨S20x1000, .f32⟩
  | 64 => ⟨S20x1000, .f32⟩
  | 65 => ⟨S20x1000x1, .f32⟩
  | 66 => ⟨S20x1x1000, .f32⟩
  | 67 => ⟨S20x1000x1000, .f32⟩
  | 68 => ⟨S20x1000x1000, .f32⟩
  | 69 => ⟨S20x1000x1000, .f32⟩
  | 70 => ⟨S20x1000x1, .f32⟩
  | 71 => ⟨S20x1x1000, .f32⟩
  | 72 => ⟨S20x1000x1000, .f32⟩
  | 73 => ⟨S20x1000x1000, .f32⟩
  | 74 => ⟨S20x1000x1000, .f32⟩
  | 75 => ⟨S20x1000x1, .f32⟩
  | 76 => ⟨S20x1x1000, .f32⟩
  | 77 => ⟨S20x1000x1000, .f32⟩
  | 78 => ⟨S20x1000x1000, .f32⟩
  | 79 => ⟨S20x1000x1000, .f32⟩
  | 80 => ⟨S20x1000x1, .f32⟩
  | 81 => ⟨S20x1x1000, .f32⟩
  | 82 => ⟨S20x1000x1000, .f32⟩
  | 83 => ⟨S20x1000x1000, .f32⟩
  | 84 => ⟨S20x1000x1000, .f32⟩
  | 85 => ⟨S20x1000x1000, .f32⟩
  | 86 => ⟨S_, .f32⟩
  | 87 => ⟨S20x1000x1000, .f32⟩
  | 88 => ⟨S20x1000x1000, .f32⟩
  | 89 => ⟨S20x1000x1000, .f32⟩
  | 90 => ⟨S_, .f32⟩
  | 91 => ⟨S20x1000x1000, .f32⟩
  | 92 => ⟨S20x1000x1000, .f32⟩
  | 93 => ⟨S20x1000x1000, .f32⟩
  | 94 => ⟨S20x1000x1, .f32⟩
  | 95 => ⟨S20x1x1000, .f32⟩
  | 96 => ⟨S20x1000x1000, .f32⟩
  | 97 => ⟨S20x1000x1000, .f32⟩
  | 98 => ⟨S20x1000x1000, .f32⟩
  | 99 => ⟨S20x1000x1000, .f32⟩
  | 100 => ⟨S_, .f32⟩
  | 101 => ⟨S20x1000x1000, .f32⟩
  | 102 => ⟨S20x1000x1000, .f32⟩
  | 103 => ⟨S20x1000x1000, .f32⟩
  | 104 => ⟨S_, .i1⟩
  | 105 => ⟨S1000x1000, .i1⟩
  | 106 => ⟨S1000x1000, .i32⟩
  | 107 => ⟨S_, .i32⟩
  | 108 => ⟨S1000x1000, .i32⟩
  | 109 => ⟨S1000x1000, .i32⟩
  | 110 => ⟨S1000x1000, .i32⟩
  | 111 => ⟨S1000x1000, .i1⟩
  | 112 => ⟨S_, .i1⟩
  | 113 => ⟨S1000x1000, .i1⟩
  | 114 => ⟨S1000x1000, .i1⟩
  | 115 => ⟨S_, .f32⟩
  | 116 => ⟨S_, .f32⟩
  | 117 => ⟨S20x1000x1000, .i1⟩
  | 118 => ⟨S20x1000x1000, .f32⟩
  | 119 => ⟨S20x1000x1000, .f32⟩
  | 120 => ⟨S_, .f32⟩
  | 121 => ⟨S20x1000, .f32⟩
  | 122 => ⟨S_, .f32⟩
  | 123 => ⟨S20x1000, .f32⟩
  | 124 => ⟨S20x1000, .i1⟩
  | 125 => ⟨S_, .f32⟩
  | 126 => ⟨S20x1000, .f32⟩
  | 127 => ⟨S20x1000, .i1⟩
  | _ => ⟨S1000x4, .f32⟩

abbrev hbmTy0_2 (i : Nat) : BufTy := match i % 128 with
  | 0 => ⟨S20x1000, .i1⟩
  | 1 => ⟨S_, .f32⟩
  | 2 => ⟨S_, .f32⟩
  | 3 => ⟨S20x1000, .f32⟩
  | 4 => ⟨S20x1000, .f32⟩
  | 5 => ⟨S20, .i32⟩
  | 6 => ⟨S20x1, .i32⟩
  | 7 => ⟨S_, .f32⟩
  | 8 => ⟨S20x1000, .f32⟩
  | 9 => ⟨S_, .i32⟩
  | 10 => ⟨S20x1, .i32⟩
  | 11 => ⟨S20x1, .i1⟩
  | 12 => ⟨S_, .i32⟩
  | 13 => ⟨S20x1, .i32⟩
  | 14 => ⟨S20x1, .i32⟩
  | 15 => ⟨S20x1, .i32⟩
  | 16 => ⟨S_, .i32⟩
  | 17 => ⟨S20x1000, .i32⟩
  | 18 => ⟨S20x1000, .i1⟩
  | 19 => ⟨S_, .i32⟩
  | 20 => ⟨S20x1000, .i32⟩
  | 21 => ⟨S20x1000, .i32⟩
  | 22 => ⟨S20x1000, .i32⟩
  | 23 => ⟨S20x1000, .i32⟩
  | 24 => ⟨S20x1000x1, .i32⟩
  | 25 => ⟨S20x1000x1, .i32⟩
  | 26 => ⟨S20x1000x2, .i32⟩
  | 27 => ⟨S20x1000, .f32⟩
  | _ => ⟨S1000x4, .f32⟩

abbrev hbmTy (i : Nat) : BufTy := match i / 128 with
  | 0 => hbmTy0_0 i
  | 1 => hbmTy0_1 i
  | 2 => hbmTy0_2 i
  | _ => ⟨S1000x4, .f32⟩

abbrev bufTy : (tb : Table) → Fin (tcTables nBuf tb) → BufTy
  | .hbm, ⟨i, _⟩ => hbmTy i
  | _, _ => ⟨S1000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_cst_4 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_cst_5 : Ref sig .tc := ⟨.hbm, 77, rfl⟩
abbrev main_cst_6 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_8 : Ref sig .tc := ⟨.hbm, 89, rfl⟩
abbrev main_cst_9 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_11 : Ref sig .tc := ⟨.hbm, 101, rfl⟩
abbrev main_cst_12 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v76 : Ref sig .tc := ⟨.hbm, 108, rfl⟩
abbrev main_cst_13 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_14 : Ref sig .tc := ⟨.hbm, 113, rfl⟩
abbrev main_cst_15 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_16 : Ref sig .tc := ⟨.hbm, 128, rfl⟩
abbrev main_v88 : Ref sig .tc := ⟨.hbm, 129, rfl⟩
abbrev main_v89 : Ref sig .tc := ⟨.hbm, 130, rfl⟩
abbrev main_cst_17 : Ref sig .tc := ⟨.hbm, 131, rfl⟩
abbrev main_call4_v0 : Ref sig .tc := ⟨.hbm, 132, rfl⟩
abbrev main_call4_v1 : Ref sig .tc := ⟨.hbm, 133, rfl⟩
abbrev main_v90 : Ref sig .tc := ⟨.hbm, 134, rfl⟩
abbrev main_v91 : Ref sig .tc := ⟨.hbm, 135, rfl⟩
abbrev main_call5_v0 : Ref sig .tc := ⟨.hbm, 136, rfl⟩
abbrev main_call5_v1_0 : Ref sig .tc := ⟨.hbm, 137, rfl⟩
abbrev main_v92 : Ref sig .tc := ⟨.hbm, 138, rfl⟩
abbrev main_call6_c : Ref sig .tc := ⟨.hbm, 139, rfl⟩
abbrev main_call6_v0 : Ref sig .tc := ⟨.hbm, 140, rfl⟩
abbrev main_call6_v1 : Ref sig .tc := ⟨.hbm, 141, rfl⟩
abbrev main_call6_c_0 : Ref sig .tc := ⟨.hbm, 142, rfl⟩
abbrev main_call6_v2 : Ref sig .tc := ⟨.hbm, 143, rfl⟩
abbrev main_call6_v3 : Ref sig .tc := ⟨.hbm, 144, rfl⟩
abbrev main_call6_v4 : Ref sig .tc := ⟨.hbm, 145, rfl⟩
abbrev main_call6_v5 : Ref sig .tc := ⟨.hbm, 146, rfl⟩
abbrev main_v93 : Ref sig .tc := ⟨.hbm, 147, rfl⟩
abbrev main_call7_c : Ref sig .tc := ⟨.hbm, 148, rfl⟩
abbrev main_call7_v0 : Ref sig .tc := ⟨.hbm, 149, rfl⟩
abbrev main_call7_v1 : Ref sig .tc := ⟨.hbm, 150, rfl⟩
abbrev main_call7_c_0 : Ref sig .tc := ⟨.hbm, 151, rfl⟩
abbrev main_call7_v2 : Ref sig .tc := ⟨.hbm, 152, rfl⟩
abbrev main_call7_v3 : Ref sig .tc := ⟨.hbm, 153, rfl⟩
abbrev main_call7_v4 : Ref sig .tc := ⟨.hbm, 154, rfl⟩
abbrev main_call7_v5 : Ref sig .tc := ⟨.hbm, 155, rfl⟩
abbrev main_v94 : Ref sig .tc := ⟨.hbm, 156, rfl⟩
abbrev main_call8_c : Ref sig .tc := ⟨.hbm, 157, rfl⟩
abbrev main_call8_v0 : Ref sig .tc := ⟨.hbm, 158, rfl⟩
abbrev main_call8_v1 : Ref sig .tc := ⟨.hbm, 159, rfl⟩
abbrev main_call8_c_0 : Ref sig .tc := ⟨.hbm, 160, rfl⟩
abbrev main_call8_v2 : Ref sig .tc := ⟨.hbm, 161, rfl⟩
abbrev main_call8_v3 : Ref sig .tc := ⟨.hbm, 162, rfl⟩
abbrev main_call8_v4 : Ref sig .tc := ⟨.hbm, 163, rfl⟩
abbrev main_call8_v5 : Ref sig .tc := ⟨.hbm, 164, rfl⟩
abbrev main_v95 : Ref sig .tc := ⟨.hbm, 165, rfl⟩
abbrev main_call9_c : Ref sig .tc := ⟨.hbm, 166, rfl⟩
abbrev main_call9_v0 : Ref sig .tc := ⟨.hbm, 167, rfl⟩
abbrev main_call9_v1 : Ref sig .tc := ⟨.hbm, 168, rfl⟩
abbrev main_call9_c_0 : Ref sig .tc := ⟨.hbm, 169, rfl⟩
abbrev main_call9_v2 : Ref sig .tc := ⟨.hbm, 170, rfl⟩
abbrev main_call9_v3 : Ref sig .tc := ⟨.hbm, 171, rfl⟩
abbrev main_call9_v4 : Ref sig .tc := ⟨.hbm, 172, rfl⟩
abbrev main_call9_v5 : Ref sig .tc := ⟨.hbm, 173, rfl⟩
abbrev main_v96 : Ref sig .tc := ⟨.hbm, 174, rfl⟩
abbrev main_call10_c : Ref sig .tc := ⟨.hbm, 175, rfl⟩
abbrev main_call10_v0 : Ref sig .tc := ⟨.hbm, 176, rfl⟩
abbrev main_call10_v1 : Ref sig .tc := ⟨.hbm, 177, rfl⟩
abbrev main_call10_c_0 : Ref sig .tc := ⟨.hbm, 178, rfl⟩
abbrev main_call10_v2 : Ref sig .tc := ⟨.hbm, 179, rfl⟩
abbrev main_call10_v3 : Ref sig .tc := ⟨.hbm, 180, rfl⟩
abbrev main_call10_v4 : Ref sig .tc := ⟨.hbm, 181, rfl⟩
abbrev main_call10_v5 : Ref sig .tc := ⟨.hbm, 182, rfl⟩
abbrev main_v97 : Ref sig .tc := ⟨.hbm, 183, rfl⟩
abbrev main_v98 : Ref sig .tc := ⟨.hbm, 184, rfl⟩
abbrev main_cst_18 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_cst_19 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_cst_20 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_cst_21 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_cst_22 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_c : Ref sig .tc := ⟨.hbm, 232, rfl⟩
abbrev main_v141 : Ref sig .tc := ⟨.hbm, 233, rfl⟩
abbrev main_call11_v0 : Ref sig .tc := ⟨.hbm, 234, rfl⟩
abbrev main_call11_c : Ref sig .tc := ⟨.hbm, 235, rfl⟩
abbrev main_call11_v1 : Ref sig .tc := ⟨.hbm, 236, rfl⟩
abbrev main_call11_v2 : Ref sig .tc := ⟨.hbm, 237, rfl⟩
abbrev main_call11_v3 : Ref sig .tc := ⟨.hbm, 238, rfl⟩
abbrev main_call11_v4 : Ref sig .tc := ⟨.hbm, 239, rfl⟩
abbrev main_call11_c_0 : Ref sig .tc := ⟨.hbm, 240, rfl⟩
abbrev main_call11_v5 : Ref sig .tc := ⟨.hbm, 241, rfl⟩
abbrev main_v142 : Ref sig .tc := ⟨.hbm, 242, rfl⟩
abbrev main_cst_23 : Ref sig .tc := ⟨.hbm, 243, rfl⟩
abbrev main_call12_v0 : Ref sig .tc := ⟨.hbm, 244, rfl⟩
abbrev main_call12_v1 : Ref sig .tc := ⟨.hbm, 245, rfl⟩
abbrev main_call12_v2 : Ref sig .tc := ⟨.hbm, 246, rfl⟩
abbrev main_v143 : Ref sig .tc := ⟨.hbm, 247, rfl⟩
abbrev main_cst_24 : Ref sig .tc := ⟨.hbm, 248, rfl⟩
abbrev main_v144 : Ref sig .tc := ⟨.hbm, 249, rfl⟩
abbrev main_cst_25 : Ref sig .tc := ⟨.hbm, 250, rfl⟩
abbrev main_v145 : Ref sig .tc := ⟨.hbm, 251, rfl⟩
abbrev main_v146 : Ref sig .tc := ⟨.hbm, 252, rfl⟩
abbrev main_cst_26 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_cst_27 : Ref sig .tc := ⟨.hbm, 257, rfl⟩
abbrev main_call13_v0 : Ref sig .tc := ⟨.hbm, 258, rfl⟩
abbrev main_call13_v1 : Ref sig .tc := ⟨.hbm, 259, rfl⟩
abbrev main_v150 : Ref sig .tc := ⟨.hbm, 260, rfl⟩
abbrev main_v151 : Ref sig .tc := ⟨.hbm, 261, rfl⟩
abbrev main_v152 : Ref sig .tc := ⟨.hbm, 262, rfl⟩
abbrev main_cst_28 : Ref sig .tc := ⟨.hbm, 263, rfl⟩
abbrev main_v153 : Ref sig .tc := ⟨.hbm, 264, rfl⟩
abbrev main_c_29 : Ref sig .tc := ⟨.hbm, 265, rfl⟩
abbrev main_v154 : Ref sig .tc := ⟨.hbm, 266, rfl⟩
abbrev main_v155 : Ref sig .tc := ⟨.hbm, 267, rfl⟩
abbrev main_c_30 : Ref sig .tc := ⟨.hbm, 268, rfl⟩
abbrev main_v156 : Ref sig .tc := ⟨.hbm, 269, rfl⟩
abbrev main_v157 : Ref sig .tc := ⟨.hbm, 270, rfl⟩
abbrev main_v158 : Ref sig .tc := ⟨.hbm, 271, rfl⟩
abbrev main_c_31 : Ref sig .tc := ⟨.hbm, 272, rfl⟩
abbrev main_v159 : Ref sig .tc := ⟨.hbm, 273, rfl⟩
abbrev main_v160 : Ref sig .tc := ⟨.hbm, 274, rfl⟩
abbrev main_c_32 : Ref sig .tc := ⟨.hbm, 275, rfl⟩
abbrev main_v161 : Ref sig .tc := ⟨.hbm, 276, rfl⟩
abbrev main_v162 : Ref sig .tc := ⟨.hbm, 277, rfl⟩
abbrev main_v163 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_v167 : Ref sig .tc := ⟨.hbm, 282, rfl⟩
abbrev main_v168 : Ref sig .tc := ⟨.hbm, 283, rfl⟩

abbrev nD : Nat := 1
abbrev τ : Topo := Topo.v7x

variable {F : FTy → Type} [FloatOps F]
-- ==== Proof.Ideal.Run.lean ====
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

/-!
# What one grid point of the kernel does

A grid point either fills the three scratch buffers and then runs the loop over its five classes (the first point),
or finds them filled and runs the loop only (the other points). Both runs are stated here over whole buffers: what
each stored buffer ends with is a list of pieces, which the run finds.
-/

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The condition under which a grid point fills the scratch buffers. -/
abbrev fills (i : grid0.Coords) : Prop :=
  (Scalar.cmpi .ne (Scalar.extui (Scalar.cmpi .eq (BitVec.ofNat 32 (i 0).val) 0#32)) 0#32) = 1#1

/-- It holds at the first grid point and at no other. -/
theorem fills_iff : ∀ t : Fin cfg0.N, fills (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    have h4 : t.val / 1 % 4 = t.val := by omega
    simp only [fills, e0, h4]
    interval_cases t.val <;> decide
   : ∀ t : Fin grid0.N, fills (grid0.coords t) ↔ t.val = 0)

variable (c : Dev nD) (i : grid0.Coords)
  (arg1 : Memref sig .tc .vmem S1000x4 .f32) (harg1 : arg1.IsWhole)
  (arg2 : Memref sig .tc .vmem S1000x84 .f32) (harg2 : arg2.IsWhole)
  (arg3 : Memref sig .tc .vmem S1000x21 .f32) (harg3 : arg3.IsWhole)
  (arg4 : Memref sig .tc .vmem S5x1000x4 .f32) (harg4 : arg4.IsWhole)
  (arg5 : Memref sig .tc .vmem S5x1x1000 .f32) (harg5 : arg5.IsWhole)
  (arg6 : Memref sig .tc .vmem S21x4x1024 .f32) (harg6 : arg6.IsWhole)
  (arg7 : Memref sig .tc .vmem S24x1024 .f32) (harg7 : arg7.IsWhole)
  (arg8 : Memref sig .tc .vmem S8x1024 .f32) (harg8 : arg8.IsWhole)
  (x0 : Vec F S1000x4 .f32) (x1 : Vec F S1000x84 .f32) (x2 : Vec F S1000x21 .f32)

set_option maxHeartbeats 1000000 in
/-- The first point: it runs from scratch buffers holding anything; each stored buffer ends with the pieces found. -/
noncomputable def runFirst (hc : fills i) :
    Σ' (L4 : List (View.Piece (Elt F) S5x1000x4 .f32)), Σ' (L5 : List (View.Piece (Elt F) S5x1x1000 .f32)),
    Σ' (L6 : List (View.Piece (Elt F) S21x4x1024 .f32)), Σ' (L7 : List (View.Piece (Elt F) S24x1024 .f32)),
    { L8 : List (View.Piece (Elt F) S8x1024 .f32) // ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)) -∗ K ⟨⟩))
          ⊢ wp frame (wpE (defs₀ (F := F)) Variants.none c none) E
              (cc0__nms_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__nms_kernel_eq_skeleton]; unfold cc0__nms_kernel_skel
    simp only [k0_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg1.eq_unread hf1; obtain rfl := harg2.eq_unread hf2; obtain rfl := harg3.eq_unread hf3
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

set_option maxHeartbeats 1000000 in
/-- Any later point: the scratch buffers hold `x6`, `x7`, `x8` before and after it. -/
noncomputable def runLater (hc : ¬fills i) (x6 : Vec F S21x4x1024 .f32) (x7 : Vec F S24x1024 .f32) (x8 : Vec F S8x1024 .f32) :
    Σ' (L4 : List (View.Piece (Elt F) S5x1000x4 .f32)),
    { L5 : List (View.Piece (Elt F) S5x1x1000 .f32) // ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare x6 ∗ owns (c : Thread nD τ) arg7 fullShare x7 ∗ owns (c : Thread nD τ) arg8 fullShare x8
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ owns (c : Thread nD τ) arg6 fullShare x6 ∗ owns (c : Thread nD τ) arg7 fullShare x7 ∗ owns (c : Thread nD τ) arg8 fullShare x8) -∗ K ⟨⟩))
          ⊢ wp frame (wpE (defs₀ (F := F)) Variants.none c none) E
              (cc0__nms_kernel i arg1 harg1 arg2 harg2 arg3 harg3 arg4 harg4 arg5 harg5 arg6 harg6 arg7 harg7 arg8 harg8) K } := by
  refine ⟨?_, ?_, fun E K => ?run⟩
  case run =>
    simp only [cc0__nms_kernel_eq_skeleton]; unfold cc0__nms_kernel_skel
    unfold owns
    iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg6.eq_unread hf6; obtain rfl := harg7.eq_unread hf7; obtain rfl := harg8.eq_unread hf8
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    iexists _; isplitr; · ipureintro; exact harg8.read_unread _
    iexact H8

end Cert.KernelIdeal.Hand

end
-- ==== Proof.Ideal.Trip.lean ====
module

public import proofs.«01_k».proof.Proof.Ideal.Run

@[expose] public section

set_option maxRecDepth 16384

noncomputable section

/-!
# One trip of the class loop, as functions of what it reads

A trip handles one class. It reads the region proposals (transposed, `v3`), the class's offsets (`ld`) and its
probabilities (`pr`), decodes the 1024 boxes into rows, compares every pair of boxes in 64 tiles of 128 by 128, and
stores the class's boxes and the class's kept scores. The rows, the tiles and the two stored vectors are named here;
the last two theorems say that the pieces the trip stores are these vectors.
-/

namespace Cert.KernelIdeal.Hand

open Cert.KernelIdeal.Gen
open Idealize.ShloMosaic Idealize.ShloMosaic.TcCoe Idealize.ShloMosaic.Tactic

variable {F : FTy → Type} [FloatOps F] [Named F]

section rows

variable (v3 : Vec F S8x1024 .f32) (ld : Vec F S1x4x1024 .f32) (pr : Vec F S1x1024 .f32)

/-- The boxes' top edges. -/
def rowY1 : FVec F S1x1024 .f32 := k0_pay23 (k0_pay4 v3) (k0_pay6 v3) ld
/-- The boxes' left edges. -/
def rowX1 : FVec F S1x1024 .f32 := k0_pay24 (k0_pay5 v3) (k0_pay7 v3) ld
/-- The boxes' bottom edges, before the last clip. -/
def rowY2pre : FVec F S1x1024 .f32 := k0_pay25 (k0_pay4 v3) (k0_pay6 v3) ld
/-- The boxes' bottom edges. -/
def rowY2 : FVec F S1x1024 .f32 := k0_pay26 (Scalar.ofBits .f32 0x44160000#32) (rowY2pre v3 ld)
/-- The boxes' right edges. -/
def rowX2 : FVec F S1x1024 .f32 := k0_pay27 (k0_pay20 (k0_pay5 v3) (k0_pay7 v3) ld) (k0_pay22 (k0_pay5 v3) ld)
/-- The boxes' areas times the ratio the overlap test uses. -/
def rowA : FVec F S1x1024 .f32 :=
  k0_pay28 (k0_pay20 (k0_pay5 v3) (k0_pay7 v3) ld) (k0_pay22 (k0_pay5 v3) ld) (rowY1 v3 ld) (rowX1 v3 ld)
    (Scalar.ofBits .f32 0x44160000#32) (rowY2pre v3 ld)
/-- The class's scores: its probabilities, where they exceed the low threshold. -/
def rowS : FVec F S1x1024 .f32 := k0_pay18 pr

/-- The six rows side by side, one box per row of the table. -/
def table : FVec F S1024x8 .f32 :=
  k0_pay29 (rowS pr) (k0_pay20 (k0_pay5 v3) (k0_pay7 v3) ld) (k0_pay22 (k0_pay5 v3) ld) (rowY1 v3 ld) (rowX1 v3 ld)
    (Scalar.ofBits .f32 0x44160000#32) (rowY2pre v3 ld)

end rows

/-- "Box `j` comes before box `i`" in a tile on the diagonal: a higher score, or an equal one and a smaller index. -/
def onDiagonal (s t : FVec F S128x128 .f32) : IVec S128x128 1 := ori (cmpf .ogt s t) (andi (cmpf .oeq s t) k0_pay8)
/-- The same in a tile whose rows all come before its columns. -/
def beforeDiagonal (s t : FVec F S128x128 .f32) : IVec S128x128 1 := cmpf .oge s t
/-- The same in a tile whose rows all come after its columns. -/
def afterDiagonal (s t : FVec F S128x128 .f32) : IVec S128x128 1 := cmpf .ogt s t

section tiles

variable (P : FVec F S1024x8 .f32) (y1 x1 y2 x2 a s : FVec F S1x1024 .f32)

/-- Column `k` of the rows `j0 …` of the table, spread over a tile. -/
def down (j0 k : ℕ) (hj : S1024x8.Slices ![j0, 0] S128x8) (hk : S128x8.Slices ![0, k] S128x1) : FVec F S128x128 .f32 :=
  broadcastTo S128x128 (extractStridedSlice S128x1 ![0, k] (extractStridedSlice S128x8 ![j0, 0] P hj) hk)
    broadcasts_S128x1_S128x128

/-- The entries `i0 …` of a row, spread over a tile. -/
def across (r : FVec F S1x1024 .f32) (i0 : ℕ) (hi : S1x1024.Slices ![0, i0] S1x128) : FVec F S128x128 .f32 :=
  broadcastTo S128x128 (extractStridedSlice S1x128 ![0, i0] r hi) broadcasts_S1x128_S128x128

/-- The zero tile. -/
def zeroTile : FVec F S128x128 .f32 := broadcast S128x128 (Scalar.ofBits .f32 0x00000000#32)

/-- The pairs of a tile, row before column, whose intersection exceeds the sum of their scaled areas. -/
def tilePairs (j0 i0 : ℕ) (hj : S1024x8.Slices ![j0, 0] S128x8) (hi : S1x1024.Slices ![0, i0] S1x128)
    (before : FVec F S128x128 .f32 → FVec F S128x128 .f32 → IVec S128x128 1) : IVec S128x128 1 :=
  andi
    (cmpf .ogt
      (mulf
        (maximumf (subf (minimumf (down P j0 2 hj slices_S128x8_o0_2_S128x1) (across y2 i0 hi))
          (maximumf (down P j0 0 hj slices_S128x8_o0_0_S128x1) (across y1 i0 hi))) zeroTile)
        (maximumf (subf (minimumf (down P j0 3 hj slices_S128x8_o0_3_S128x1) (across x2 i0 hi))
          (maximumf (down P j0 1 hj slices_S128x8_o0_1_S128x1) (across x1 i0 hi))) zeroTile))
      (addf (down P j0 4 hj slices_S128x8_o0_4_S128x1) (across a i0 hi)))
    (before (down P j0 5 hj slices_S128x8_o0_5_S128x1) (across s i0 hi))

/-- Which columns of a tile of bits hold a set bit. -/
def anyRow (b : IVec S128x128 1) : IVec S1x128 1 :=
  shapeCast S1x128
    (cmpf .ogt
      (multiReduction .maximumf [0] S128
        (select b (broadcast S128x128 (Scalar.ofBits (F := F) .f32 0x3F800000#32) : FVec F S128x128 .f32) zeroTile)
        0xFF800000#32 reduces_S128x128_S128 (.inl rfl) rfl)
      (broadcast S128 (Scalar.ofBits .f32 0x00000000#32)))
    shapeCasts_S128_S1x128

/-- Which boxes `i0 …` a box of the rows `j0 …` suppresses. -/
def tile (j0 i0 : ℕ) (hj : S1024x8.Slices ![j0, 0] S128x8) (hi : S1x1024.Slices ![0, i0] S1x128)
    (before : FVec F S128x128 .f32 → FVec F S128x128 .f32 → IVec S128x128 1) : IVec S1x128 1 :=
  anyRow (F := F) (tilePairs P y1 x1 y2 x2 a s j0 i0 hj hi before)

/-- Which boxes `i0 …` any box suppresses, the way "before" is decided given per tile. -/
def column (i0 : ℕ) (hi : S1x1024.Slices ![0, i0] S1x128)
    (b0 b1 b2 b3 b4 b5 b6 b7 : FVec F S128x128 .f32 → FVec F S128x128 .f32 → IVec S128x128 1) : IVec S1x128 1 :=
  ori (ori (ori (ori (ori (ori (ori (tile P y1 x1 y2 x2 a s 0 i0 slices_S1024x8_o0_0_S128x8 hi b0)
    (tile P y1 x1 y2 x2 a s 128 i0 slices_S1024x8_o128_0_S128x8 hi b1))
    (tile P y1 x1 y2 x2 a s 256 i0 slices_S1024x8_o256_0_S128x8 hi b2))
    (tile P y1 x1 y2 x2 a s 384 i0 slices_S1024x8_o384_0_S128x8 hi b3))
    (tile P y1 x1 y2 x2 a s 512 i0 slices_S1024x8_o512_0_S128x8 hi b4))
    (tile P y1 x1 y2 x2 a s 640 i0 slices_S1024x8_o640_0_S128x8 hi b5))
    (tile P y1 x1 y2 x2 a s 768 i0 slices_S1024x8_o768_0_S128x8 hi b6))
    (tile P y1 x1 y2 x2 a s 896 i0 slices_S1024x8_o896_0_S128x8 hi b7)

/-- Which boxes any box suppresses. -/
def suppressed : IVec S1x1024 1 :=
  concatenate S1x1024 1
    [⟨S1x128, column P y1 x1 y2 x2 a s 0 slices_S1x1024_o0_0_S1x128 onDiagonal afterDiagonal afterDiagonal afterDiagonal afterDiagonal afterDiagonal afterDiagonal afterDiagonal⟩,
      ⟨S1x128, column P y1 x1 y2 x2 a s 128 slices_S1x1024_o0_128_S1x128 beforeDiagonal onDiagonal afterDiagonal afterDiagonal afterDiagonal afterDiagonal afterDiagonal afterDiagonal⟩,
      ⟨S1x128, column P y1 x1 y2 x2 a s 256 slices_S1x1024_o0_256_S1x128 beforeDiagonal beforeDiagonal onDiagonal afterDiagonal afterDiagonal afterDiagonal afterDiagonal afterDiagonal⟩,
      ⟨S1x128, column P y1 x1 y2 x2 a s 384 slices_S1x1024_o0_384_S1x128 beforeDiagonal beforeDiagonal beforeDiagonal onDiagonal afterDiagonal afterDiagonal afterDiagonal afterDiagonal⟩,
      ⟨S1x128, column P y1 x1 y2 x2 a s 512 slices_S1x1024_o0_512_S1x128 beforeDiagonal beforeDiagonal beforeDiagonal beforeDiagonal onDiagonal afterDiagonal afterDiagonal afterDiagonal⟩,
      ⟨S1x128, column P y1 x1 y2 x2 a s 640 slices_S1x1024_o0_640_S1x128 beforeDiagonal beforeDiagonal beforeDiagonal beforeDiagonal beforeDiagonal onDiagonal afterDiagonal afterDiagonal⟩,
      ⟨S1x128, column P y1 x1 y2 x2 a s 768 slices_S1x1024_o0_768_S1x128 beforeDiagonal beforeDiagonal beforeDiagonal beforeDiagonal beforeDiagonal beforeDiagonal onDiagonal afterDiagonal⟩,
      ⟨S1x128, column P y1 x1 y2 x2 a s 896 slices_S1x1024_o0_896_S1x128 beforeDiagonal beforeDiagonal beforeDiagonal beforeDiagonal beforeDiagonal beforeDiagonal beforeDiagonal onDiagonal⟩]
    concatenates_S1x128_S1x128_S1x128_S1x128_S1x128_S1x128_S1x128_S1x128_S1x1024_d1

end tiles

section stored

variable (v3 : Vec F S8x1024 .f32) (ld : Vec F S1x4x1024 .f32) (pr : Vec F S1x1024 .f32)

/-- The boxes a trip stores. -/
def tripBoxes : FVec F S1x1000x4 .f32 := k0_pay9 (table v3 ld pr)

/-- The scores a trip stores. -/
def tripScores : FVec F S1x1x1000 .f32 :=
  k0_pay10 (rowS pr)
    (xori (suppressed (table v3 ld pr) (rowY1 v3 ld) (rowX1 v3 ld) (rowY2 v3 ld) (rowX2 v3 ld) (rowA v3 ld) (rowS pr))
      (constantI S1x1024 1 1#1))
    k0_pay350

end stored

/-- The offsets a trip reads. -/
abbrev readOffsets (i : grid0.Coords)
    (arg6 : Memref sig .tc .vmem S21x4x1024 .f32) (X6 : BufTy.Contents (Elt F) arg6.view.ty) (k : Fin k0_t1_loop.trips) : Vec F S1x4x1024 .f32 :=
  View.readAt (Elt F) arg6.view (Rect.unit (s := S21x4x1024) (k0_off1 i k) S1x4x1024.size (k0_off1_inb i k)).toLoadRect X6

/-- The probabilities a trip reads. -/
abbrev readProbs (i : grid0.Coords)
    (arg7 : Memref sig .tc .vmem S24x1024 .f32) (X7 : BufTy.Contents (Elt F) arg7.view.ty) (k : Fin k0_t1_loop.trips) : Vec F S1x1024 .f32 :=
  View.readAt (Elt F) arg7.view (Rect.unit (s := S24x1024) (k0_off2 i k) S1x1024.size (k0_off2_inb i k)).toLoadRect X7

variable (c : Dev nD) (i : grid0.Coords)
  (arg1 : Memref sig .tc .vmem S1000x4 .f32) (harg1 : arg1.IsWhole)
  (arg2 : Memref sig .tc .vmem S1000x84 .f32) (harg2 : arg2.IsWhole)
  (arg3 : Memref sig .tc .vmem S1000x21 .f32) (harg3 : arg3.IsWhole)
  (arg4 : Memref sig .tc .vmem S5x1000x4 .f32) (harg4 : arg4.IsWhole)
  (arg5 : Memref sig .tc .vmem S5x1x1000 .f32) (harg5 : arg5.IsWhole)
  (arg6 : Memref sig .tc .vmem S21x4x1024 .f32) (harg6 : arg6.IsWhole)
  (arg7 : Memref sig .tc .vmem S24x1024 .f32) (harg7 : arg7.IsWhole)
  (arg8 : Memref sig .tc .vmem S8x1024 .f32) (harg8 : arg8.IsWhole)
  (arg0 : BitVec 32) (v3 : Vec F S8x1024 .f32)
  (X6 : BufTy.Contents (Elt F) arg6.view.ty) (X7 : BufTy.Contents (Elt F) arg7.view.ty) (k : Fin k0_t1_loop.trips)

/-- The pieces a trip stores into the boxes' output. -/
theorem trip_boxes :
    (tripL_k0_t1 (F := F) Variants.none c none i arg1 harg1 arg2 harg2 arg3 harg3 arg4 harg4 arg5 harg5 arg6 harg6 arg7 harg7 arg8 harg8 arg0 v3 X6 X7 k).1
      = [⟨Rect.unit (k0_off3 k) ![1, 1000, 4] (k0_off3_inb k),
          tripBoxes v3 (readOffsets i arg6 X6 k) (readProbs i arg7 X7 k)⟩] := by
  dsimp only; unfold trip_k0_t1; dsimp only
  with_unfolding_all rfl

/-- The pieces a trip stores into the scores' output. -/
theorem trip_scores :
    (tripL_k0_t1 (F := F) Variants.none c none i arg1 harg1 arg2 harg2 arg3 harg3 arg4 harg4 arg5 harg5 arg6 harg6 arg7 harg7 arg8 harg8 arg0 v3 X6 X7 k).2
      = [⟨Rect.unit (k0_off4 k) ![1, 1, 1000] (k0_off4_inb k),
          tripScores v3 (readOffsets i arg6 X6 k) (readProbs i arg7 X7 k)⟩] := by
  dsimp only; unfold trip_k0_t1; dsimp only
  with_unfolding_all rfl

end Cert.KernelIdeal.Hand

end
-- ==== Proof.Ideal.Point.lean ====
module

public import proofs.«01_k».proof.Proof.Ideal.Trip
public import Idealize.ShloMosaic.Lib.Pipeline.Value
public import Idealize.ShloMosaic.Lib.Pipeline.FrameBody
public import Idealize.ShloMosaic.Lib.ValueIdx
public import Idealize.ShloMosaic.Lib.Ring

@[expose] public section

set_option maxRecDepth 16384

noncomputable section

/-!
# What one grid point leaves, as functions

The first grid point fills the three scratch buffers: the proposals transposed and padded, the offsets transposed,
split by class and padded, and the class probabilities (a softmax over the 21 classes) transposed and padded. These
contents are functions of the inputs (`filledBoxes`, `filledOffsets`, `filledProbs`). The five trips of the loop then
leave, class by class, the boxes and the scores of one trip (`pointBoxes`, `pointScores`).
-/

namespace Cert.KernelIdeal.Hand

open Cert.KernelIdeal.Gen
open Idealize.ShloMosaic Idealize.ShloMosaic.TcCoe Idealize.ShloMosaic.Tactic
open Idealize.ShloMosaic.ValueIdx

variable {F : FTy → Type} [FloatOps F] [Named F]

/-- The loop makes five trips. -/
theorem trips_eq : k0_t1_loop.trips = 5 := by decide

/-- The class a trip handles: class 0 is the background, and a grid point handles five of the other twenty. -/
def cls (i : grid0.Coords) (k : Fin 5) : Fin 21 :=
  ⟨5 * (i 0).val + k.val + 1, by
    have h : (i 0).val < 4 := (i 0).isLt
    omega⟩

/-- Trip `k` reads its offsets at its class. -/
theorem off1_eq (i : grid0.Coords) (k : Fin k0_t1_loop.trips) :
    k0_off1 i k = ![(cls i (k.cast trips_eq)).val, 0, 0] := by
  have h : ∀ (a : Fin 4) (k : Fin 5),
      (Scalar.addi (Scalar.addi (Scalar.muli (BitVec.ofNat 32 a.val) 5#32) (Scf.iv 0#32 1#32 (k.cast trips_eq.symm))) 1#32).toNat
        = 5 * a.val + k.val + 1 := by decide
  have e := h (i 0) (k.cast trips_eq)
  funext a
  refine Fin.cases ?_ (fun a => ?_) a
  · exact e
  · rfl

/-- Trip `k` reads its probabilities at its class. -/
theorem off2_eq (i : grid0.Coords) (k : Fin k0_t1_loop.trips) : k0_off2 i k = ![(cls i (k.cast trips_eq)).val, 0] := by
  have e := congrFun (off1_eq i k) 0
  funext a
  refine Fin.cases ?_ (fun a => ?_) a
  · exact e
  · rfl

/-- Trip `k` stores its boxes at place `k`. -/
theorem off3_eq (k : Fin k0_t1_loop.trips) : k0_off3 k = ![k.val, 0, 0] := by
  have h : ∀ k : Fin 5, (Scf.iv 0#32 1#32 (k.cast trips_eq.symm)).toNat = k.val := by decide
  have e := h (k.cast trips_eq)
  funext a
  refine Fin.cases ?_ (fun a => ?_) a
  · exact e
  · rfl

/-- Trip `k` stores its scores at place `k`. -/
theorem off4_eq (k : Fin k0_t1_loop.trips) : k0_off4 k = ![k.val, 0, 0] := by
  have e := congrFun (off3_eq k) 0
  funext a
  refine Fin.cases ?_ (fun a => ?_) a
  · exact e
  · rfl

/-- The offsets of one class. -/
def classOffsets (x6 : Vec F S21x4x1024 .f32) (q : Fin 21) : Vec F S1x4x1024 .f32 := fun z => x6 (ix3 q (z 1) (z 2))

/-- The probabilities of one class. -/
def classProbs (x7 : Vec F S24x1024 .f32) (q : Fin 21) : Vec F S1x1024 .f32 :=
  fun z => x7 (ix2 (q.castLE (by decide)) (z 1))

/-- What a trip reads of the offsets is its class's. -/
theorem readOffsets_eq (i : grid0.Coords) (arg6 : Memref sig .tc .vmem S21x4x1024 .f32)
    (X6 : BufTy.Contents (Elt F) arg6.view.ty) (k : Fin k0_t1_loop.trips) :
    readOffsets i arg6 X6 k = classOffsets (arg6.view.read (Elt F) X6) (cls i (k.cast trips_eq)) := by
  funext z
  refine congrArg (arg6.view.read (Elt F) X6) (funext fun a => Fin.ext ?_)
  show k0_off1 i k a + 1 * (z a).val = _
  rw [off1_eq]
  have h0 : (z 0).val = 0 := Nat.lt_one_iff.mp (z 0).isLt
  fin_cases a
  · simp [h0]
  · simp
  · simp

/-- What a trip reads of the probabilities is its class's. -/
theorem readProbs_eq (i : grid0.Coords) (arg7 : Memref sig .tc .vmem S24x1024 .f32)
    (X7 : BufTy.Contents (Elt F) arg7.view.ty) (k : Fin k0_t1_loop.trips) :
    readProbs i arg7 X7 k = classProbs (arg7.view.read (Elt F) X7) (cls i (k.cast trips_eq)) := by
  funext z
  refine congrArg (arg7.view.read (Elt F) X7) (funext fun a => Fin.ext ?_)
  show k0_off2 i k a + 1 * (z a).val = _
  rw [off2_eq]
  have h0 : (z 0).val = 0 := Nat.lt_one_iff.mp (z 0).isLt
  fin_cases a
  · simp [h0]
  · simp

/-! ## The loop's outputs -/

/-- The boxes a grid point leaves: class by class, a trip's. -/
def pointBoxes (i : grid0.Coords) (x6 : Vec F S21x4x1024 .f32) (x7 : Vec F S24x1024 .f32) (x8 : Vec F S8x1024 .f32) :
    Vec F S5x1000x4 .f32 :=
  fun y => tripBoxes x8 (classOffsets x6 (cls i (y 0))) (classProbs x7 (cls i (y 0))) (ix3 0 (y 1) (y 2))

/-- The scores a grid point leaves: class by class, a trip's. -/
def pointScores (i : grid0.Coords) (x6 : Vec F S21x4x1024 .f32) (x7 : Vec F S24x1024 .f32) (x8 : Vec F S8x1024 .f32) :
    Vec F S5x1x1000 .f32 :=
  fun y => tripScores x8 (classOffsets x6 (cls i (y 0))) (classProbs x7 (cls i (y 0))) (ix3 0 0 (y 2))

section loop

variable (c : Dev nD) (i : grid0.Coords)
  (arg1 : Memref sig .tc .vmem S1000x4 .f32) (harg1 : arg1.IsWhole)
  (arg2 : Memref sig .tc .vmem S1000x84 .f32) (harg2 : arg2.IsWhole)
  (arg3 : Memref sig .tc .vmem S1000x21 .f32) (harg3 : arg3.IsWhole)
  (arg4 : Memref sig .tc .vmem S5x1000x4 .f32) (harg4 : arg4.IsWhole)
  (arg5 : Memref sig .tc .vmem S5x1x1000 .f32) (harg5 : arg5.IsWhole)
  (arg6 : Memref sig .tc .vmem S21x4x1024 .f32) (harg6 : arg6.IsWhole)
  (arg7 : Memref sig .tc .vmem S24x1024 .f32) (harg7 : arg7.IsWhole)
  (arg8 : Memref sig .tc .vmem S8x1024 .f32) (harg8 : arg8.IsWhole)
  (arg0 : BitVec 32) (v3 : Vec F S8x1024 .f32)
  (X6 : BufTy.Contents (Elt F) arg6.view.ty) (X7 : BufTy.Contents (Elt F) arg7.view.ty)

/-- Every piece the loop stores into the boxes' output agrees with `pointBoxes`. -/
theorem loop_boxes (n : ℕ) (hn : n ≤ k0_t1_loop.trips) :
    ∀ p ∈ (pb_k0_t1 (F := F) Variants.none c none i arg1 harg1 arg2 harg2 arg3 harg3 arg4 harg4 arg5 harg5 arg6 harg6 arg7 harg7 arg8 harg8 arg0 v3 X6 X7 n).1, ∀ x : p.1.shape.Idx,
      p.2 x = pointBoxes i (arg6.view.read (Elt F) X6) (arg7.view.read (Elt F) X7) v3 (p.1.emb x) := by
  induction n with
  | zero => intro p hp; rw [pb_k0_t1] at hp; exact absurd hp List.not_mem_nil
  | succ n ih =>
    intro p hp
    have e := pb_k0_t1_succ (F := F) Variants.none c none i arg1 harg1 arg2 harg2 arg3 harg3 arg4 harg4 arg5 harg5 arg6 harg6 arg7 harg7 arg8 harg8 arg0 v3 X6 X7 ⟨n, hn⟩
    rw [show n + 1 = (⟨n, hn⟩ : Fin k0_t1_loop.trips).val + 1 from rfl, e] at hp
    rcases List.mem_append.mp hp with h | h
    · rw [trip_boxes] at h
      obtain rfl := List.mem_singleton.mp h
      intro x
      rw [readOffsets_eq, readProbs_eq]
      have h0 : (x 0).val = 0 := Nat.lt_one_iff.mp (x 0).isLt
      have e0 : ((Rect.unit (s := S5x1000x4) (k0_off3 ⟨n, hn⟩) ![1, 1000, 4] (k0_off3_inb ⟨n, hn⟩)).emb x 0)
          = (Fin.cast trips_eq ⟨n, hn⟩ : Fin 5) := Fin.ext (by
        show k0_off3 ⟨n, hn⟩ 0 + 1 * (x 0).val = n
        rw [congrFun (off3_eq ⟨n, hn⟩) 0, h0]; rfl)
      have e1 : ((Rect.unit (s := S5x1000x4) (k0_off3 ⟨n, hn⟩) ![1, 1000, 4] (k0_off3_inb ⟨n, hn⟩)).emb x 1).val = (x 1).val := by
        show k0_off3 ⟨n, hn⟩ 1 + 1 * (x 1).val = _
        rw [congrFun (off3_eq ⟨n, hn⟩) 1, Nat.one_mul]; exact Nat.zero_add _
      have e2 : ((Rect.unit (s := S5x1000x4) (k0_off3 ⟨n, hn⟩) ![1, 1000, 4] (k0_off3_inb ⟨n, hn⟩)).emb x 2).val = (x 2).val := by
        show k0_off3 ⟨n, hn⟩ 2 + 1 * (x 2).val = _
        rw [congrFun (off3_eq ⟨n, hn⟩) 2, Nat.one_mul]; exact Nat.zero_add _
      unfold pointBoxes
      rw [e0]
      refine congrArg (tripBoxes v3 _ _) (funext fun a => Fin.ext ?_)
      fin_cases a
      · exact h0
      · exact e1.symm
      · exact e2.symm
    · exact ih (Nat.le_of_succ_le hn) p h

/-- Every piece the loop stores into the scores' output agrees with `pointScores`. -/
theorem loop_scores (n : ℕ) (hn : n ≤ k0_t1_loop.trips) :
    ∀ p ∈ (pb_k0_t1 (F := F) Variants.none c none i arg1 harg1 arg2 harg2 arg3 harg3 arg4 harg4 arg5 harg5 arg6 harg6 arg7 harg7 arg8 harg8 arg0 v3 X6 X7 n).2, ∀ x : p.1.shape.Idx,
      p.2 x = pointScores i (arg6.view.read (Elt F) X6) (arg7.view.read (Elt F) X7) v3 (p.1.emb x) := by
  induction n with
  | zero => intro p hp; rw [pb_k0_t1] at hp; exact absurd hp List.not_mem_nil
  | succ n ih =>
    intro p hp
    have e := pb_k0_t1_succ (F := F) Variants.none c none i arg1 harg1 arg2 harg2 arg3 harg3 arg4 harg4 arg5 harg5 arg6 harg6 arg7 harg7 arg8 harg8 arg0 v3 X6 X7 ⟨n, hn⟩
    rw [show n + 1 = (⟨n, hn⟩ : Fin k0_t1_loop.trips).val + 1 from rfl, e] at hp
    rcases List.mem_append.mp hp with h | h
    · rw [trip_scores] at h
      obtain rfl := List.mem_singleton.mp h
      intro x
      rw [readOffsets_eq, readProbs_eq]
      have h0 : (x 0).val = 0 := Nat.lt_one_iff.mp (x 0).isLt
      have h1 : (x 1).val = 0 := Nat.lt_one_iff.mp (x 1).isLt
      have e0 : ((Rect.unit (s := S5x1x1000) (k0_off4 ⟨n, hn⟩) ![1, 1, 1000] (k0_off4_inb ⟨n, hn⟩)).emb x 0)
          = (Fin.cast trips_eq ⟨n, hn⟩ : Fin 5) := Fin.ext (by
        show k0_off4 ⟨n, hn⟩ 0 + 1 * (x 0).val = n
        rw [congrFun (off4_eq ⟨n, hn⟩) 0, h0]; rfl)
      have e2 : ((Rect.unit (s := S5x1x1000) (k0_off4 ⟨n, hn⟩) ![1, 1, 1000] (k0_off4_inb ⟨n, hn⟩)).emb x 2).val = (x 2).val := by
        show k0_off4 ⟨n, hn⟩ 2 + 1 * (x 2).val = _
        rw [congrFun (off4_eq ⟨n, hn⟩) 2, Nat.one_mul]; exact Nat.zero_add _
      unfold pointScores
      rw [e0]
      refine congrArg (tripScores v3 _ _) (funext fun a => Fin.ext ?_)
      fin_cases a
      · exact h0
      · exact h1
      · exact e2.symm
    · exact ih (Nat.le_of_succ_le hn) p h

end loop

/-! ## The scratch buffers -/

/-- The first scratch buffer: the offsets transposed and split by class, padded to 1024 boxes. -/
def filledOffsets (x1 : Vec F S1000x84 .f32) : Vec F S21x4x1024 .f32 :=
  View.canon (Val := Elt F) (s := S21x4x1024) (e := .f32)
    [⟨Rect.unit ![0, 0, 0] S21x4x1000.size inb_S21x4x1024_S21x4x1000_0_0_0, k0_pay12 x1⟩,
     ⟨Rect.unit ![0, 0, 0] S21x4x1024.size inb_S21x4x1024_S21x4x1024_0_0_0, k0_pay11⟩]

/-- The class logits transposed, padded to 24 classes and 1024 boxes. -/
def filledLogits (x2 : Vec F S1000x21 .f32) : Vec F S24x1024 .f32 :=
  View.canon (Val := Elt F) (s := S24x1024) (e := .f32)
    [⟨Rect.unit ![0, 0] S21x1000.size inb_S24x1024_S21x1000_0_0, k0_pay14 x2⟩,
     ⟨Rect.unit ![0, 0] S24x1024.size inb_S24x1024_S24x1024_0_0, k0_pay13⟩]

/-- The second scratch buffer: the softmax of the padded logits over the classes. -/
def filledProbs (x2 : Vec F S1000x21 .f32) : Vec F S24x1024 .f32 := k0_pay1 (filledLogits x2)

/-- The third scratch buffer: the proposals transposed, padded to eight rows and 1024 boxes. -/
def filledBoxes (x0 : Vec F S1000x4 .f32) : Vec F S8x1024 .f32 :=
  View.canon (Val := Elt F) (s := S8x1024) (e := .f32)
    [⟨Rect.unit ![0, 0] S4x1000.size inb_S8x1024_S4x1000_0_0, k0_pay16 x0⟩,
     ⟨Rect.unit ![0, 0] S8x1024.size inb_S8x1024_S8x1024_0_0, k0_pay15⟩]

/-- A load of a whole two-dimensional buffer reads its contents. -/
theorem readAt_whole2 {a b : ℕ} (M : Memref sig .tc .vmem ⟨2, ![a, b]⟩ .f32) (hM : M.IsWhole) (x : Vec F ⟨2, ![a, b]⟩ .f32)
    (inb : ∀ k, (![0, 0] : Fin 2 → ℕ) k + (⟨2, ![a, b]⟩ : Shape).size k ≤ (⟨2, ![a, b]⟩ : Shape).size k) :
    View.readAt (Elt F) M.view (Rect.unit (s := ⟨2, ![a, b]⟩) ![0, 0] (⟨2, ![a, b]⟩ : Shape).size inb).toLoadRect (hM.unread x)
      = x := by
  have h := View.ld_unit_zero (Val := Elt F) (S := ⟨2, ![a, b]⟩) (e := .f32) (off := ![0, 0])
    (by funext k; fin_cases k <;> rfl) inb (M.view.read (Elt F) (hM.unread x))
  exact h.trans (hM.read_unread x)

end Cert.KernelIdeal.Hand

end
-- ==== Proof.Ideal.Reads.lean ====
module

public import proofs.«01_k».proof.Proof.Ideal.Point

@[expose] public section

set_option maxRecDepth 16384

noncomputable section

/-!
# What each buffer reads after a grid point

The piece lists the two runs find, read back: the first point leaves the filled scratch buffers and, in the outputs,
`pointBoxes` and `pointScores` of these; a later point leaves `pointBoxes` and `pointScores` of what the scratch
buffers hold.
-/

namespace Cert.KernelIdeal.Hand

open Cert.KernelIdeal.Gen
open Idealize.ShloMosaic Idealize.ShloMosaic.TcCoe Idealize.ShloMosaic.Tactic
open Idealize.ShloMosaic.ValueIdx

variable {F : FTy → Type} [FloatOps F] [Named F]

/-- Pieces that agree with a function and cover the shape leave that function. -/
theorem read_of_pieces {s : Shape} (v : View sig .tc .vmem s .f32) (f : v.ty.Contents (Elt F))
    (L : List (View.Piece (Elt F) s .f32)) (G : s.Idx → Elt F .f32)
    (hL : ∀ p ∈ L, ∀ x : p.1.shape.Idx, p.2 x = G (p.1.emb x)) (hc : ∀ y, ∃ p ∈ L, y ∈ p.1.set) :
    v.read (Elt F) (v.writes (Elt F) f L) = G :=
  (View.read_writes_eq_canon v f L hc).trans (funext fun y => View.canon_apply_of_pieces G L hL y (hc y))

variable (c : Dev nD) (i : grid0.Coords)
  (arg1 : Memref sig .tc .vmem S1000x4 .f32) (harg1 : arg1.IsWhole)
  (arg2 : Memref sig .tc .vmem S1000x84 .f32) (harg2 : arg2.IsWhole)
  (arg3 : Memref sig .tc .vmem S1000x21 .f32) (harg3 : arg3.IsWhole)
  (arg4 : Memref sig .tc .vmem S5x1000x4 .f32) (harg4 : arg4.IsWhole)
  (arg5 : Memref sig .tc .vmem S5x1x1000 .f32) (harg5 : arg5.IsWhole)
  (arg6 : Memref sig .tc .vmem S21x4x1024 .f32) (harg6 : arg6.IsWhole)
  (arg7 : Memref sig .tc .vmem S24x1024 .f32) (harg7 : arg7.IsWhole)
  (arg8 : Memref sig .tc .vmem S8x1024 .f32) (harg8 : arg8.IsWhole)
  (x0 : Vec F S1000x4 .f32) (x1 : Vec F S1000x84 .f32) (x2 : Vec F S1000x21 .f32)

section first

variable (hc : fills i)

/-- The pieces stored into the first scratch buffer leave the filled offsets. -/
theorem canon6 : View.canon (runFirst.sl.H6_2 c arg2 harg2 x1) = filledOffsets x1 := by
  unfold runFirst.sl.H6_2 filledOffsets; rw [readAt_whole2]

/-- The logits read back before the softmax. -/
theorem logits_eq : runFirst.sl.v c arg3 harg3 arg7 x2 = filledLogits x2 := by
  unfold runFirst.sl.v filledLogits
  rw [View.readCov_eq_canon']
  unfold runFirst.sl.H7_2; rw [readAt_whole2]
  exact View.ld_unit_zero (Val := Elt F) (S := S24x1024) (e := .f32) (by funext k; fin_cases k <;> rfl) _ _

/-- The pieces stored into the second scratch buffer leave the filled probabilities. -/
theorem canon7 : View.canon (runFirst.sl.H7_3 c arg3 harg3 arg7 x2) = filledProbs x2 := by
  unfold runFirst.sl.H7_3
  rw [View.canon_cons_unit_zero (by funext k; fin_cases k <;> rfl), logits_eq]; rfl

/-- The pieces stored into the third scratch buffer leave the filled proposals. -/
theorem canon8 : View.canon (runFirst.sl.H8_2 c arg1 harg1 x0) = filledBoxes x0 := by
  unfold runFirst.sl.H8_2 filledBoxes; rw [readAt_whole2]

/-- The proposals read back before the loop. -/
theorem boxes_eq : runFirst.sl.v3 c arg1 harg1 arg8 x0 = filledBoxes x0 := by
  unfold runFirst.sl.v3
  rw [View.readCov_eq_canon', canon8]
  exact View.ld_unit_zero (Val := Elt F) (S := S8x1024) (e := .f32) (by funext k; fin_cases k <;> rfl) _ _

/-- After the first point, the first scratch buffer. -/
theorem first_read6 (f) : arg6.view.read (Elt F) (arg6.view.writes (Elt F) f (runFirst c i arg1 harg1 arg2 harg2 arg3 harg3 arg4 harg4 arg5 harg5 arg6 harg6 arg7 harg7 arg8 harg8 x0 x1 x2 hc).2.2.1)
    = filledOffsets x1 := by
  refine (View.read_writes_eq_canon _ _ _
    (View.cover_of_wholeMem (runFirst c i arg1 harg1 arg2 harg2 arg3 harg3 arg4 harg4 arg5 harg5 arg6 harg6 arg7 harg7 arg8 harg8 x0 x1 x2 hc).2.2.1 (by sl_whole_mem))).trans ?_
  unfold runFirst; dsimp only
  exact canon6 c arg2 harg2 x1

/-- After the first point, the second scratch buffer. -/
theorem first_read7 (f) : arg7.view.read (Elt F) (arg7.view.writes (Elt F) f (runFirst c i arg1 harg1 arg2 harg2 arg3 harg3 arg4 harg4 arg5 harg5 arg6 harg6 arg7 harg7 arg8 harg8 x0 x1 x2 hc).2.2.2.1)
    = filledProbs x2 := by
  refine (View.read_writes_eq_canon _ _ _
    (View.cover_of_wholeMem (runFirst c i arg1 harg1 arg2 harg2 arg3 harg3 arg4 harg4 arg5 harg5 arg6 harg6 arg7 harg7 arg8 harg8 x0 x1 x2 hc).2.2.2.1 (by sl_whole_mem))).trans ?_
  unfold runFirst; dsimp only
  exact canon7 c arg3 harg3 arg7 x2

/-- After the first point, the third scratch buffer. -/
theorem first_read8 (f) : arg8.view.read (Elt F) (arg8.view.writes (Elt F) f (runFirst c i arg1 harg1 arg2 harg2 arg3 harg3 arg4 harg4 arg5 harg5 arg6 harg6 arg7 harg7 arg8 harg8 x0 x1 x2 hc).2.2.2.2.1)
    = filledBoxes x0 := by
  refine (View.read_writes_eq_canon _ _ _
    (View.cover_of_wholeMem (runFirst c i arg1 harg1 arg2 harg2 arg3 harg3 arg4 harg4 arg5 harg5 arg6 harg6 arg7 harg7 arg8 harg8 x0 x1 x2 hc).2.2.2.2.1 (by sl_whole_mem))).trans ?_
  unfold runFirst; dsimp only
  exact canon8 c arg1 harg1 x0

/-- After the first point, the boxes' output. -/
theorem first_read4 (f) : arg4.view.read (Elt F) (arg4.view.writes (Elt F) f (runFirst c i arg1 harg1 arg2 harg2 arg3 harg3 arg4 harg4 arg5 harg5 arg6 harg6 arg7 harg7 arg8 harg8 x0 x1 x2 hc).1)
    = pointBoxes i (filledOffsets x1) (filledProbs x2) (filledBoxes x0) := by
  refine read_of_pieces _ _ _ _ ?_
    (View.cover_of_tiledL (runFirst c i arg1 harg1 arg2 harg2 arg3 harg3 arg4 harg4 arg5 harg5 arg6 harg6 arg7 harg7 arg8 harg8 x0 x1 x2 hc).1 S1x1000x4.size (by sl_kernel_rfl))
  unfold runFirst; dsimp only
  have h := loop_boxes c i arg1 harg1 arg2 harg2 arg3 harg3 arg4 harg4 arg5 harg5 arg6 harg6 arg7 harg7 arg8 harg8 (BitVec.ofNat 32 (i 0).val) (runFirst.sl.v3 c arg1 harg1 arg8 x0)
    (arg6.view.writes (Elt F) arg6.view.junk (runFirst.sl.H6_2 c arg2 harg2 x1))
    (arg7.view.writes (Elt F) arg7.view.junk (runFirst.sl.H7_3 c arg3 harg3 arg7 x2)) k0_t1_loop.trips (le_refl _)
  rw [View.read_writes_junk_eq_canon, View.read_writes_junk_eq_canon, canon6, canon7] at h
  intro p hp x
  exact (h p hp x).trans (by rw [boxes_eq])

/-- After the first point, the scores' output. -/
theorem first_read5 (f) : arg5.view.read (Elt F) (arg5.view.writes (Elt F) f (runFirst c i arg1 harg1 arg2 harg2 arg3 harg3 arg4 harg4 arg5 harg5 arg6 harg6 arg7 harg7 arg8 harg8 x0 x1 x2 hc).2.1)
    = pointScores i (filledOffsets x1) (filledProbs x2) (filledBoxes x0) := by
  refine read_of_pieces _ _ _ _ ?_
    (View.cover_of_tiledL (runFirst c i arg1 harg1 arg2 harg2 arg3 harg3 arg4 harg4 arg5 harg5 arg6 harg6 arg7 harg7 arg8 harg8 x0 x1 x2 hc).2.1 S1x1x1000.size (by sl_kernel_rfl))
  unfold runFirst; dsimp only
  have h := loop_scores c i arg1 harg1 arg2 harg2 arg3 harg3 arg4 harg4 arg5 harg5 arg6 harg6 arg7 harg7 arg8 harg8 (BitVec.ofNat 32 (i 0).val) (runFirst.sl.v3 c arg1 harg1 arg8 x0)
    (arg6.view.writes (Elt F) arg6.view.junk (runFirst.sl.H6_2 c arg2 harg2 x1))
    (arg7.view.writes (Elt F) arg7.view.junk (runFirst.sl.H7_3 c arg3 harg3 arg7 x2)) k0_t1_loop.trips (le_refl _)
  rw [View.read_writes_junk_eq_canon, View.read_writes_junk_eq_canon, canon6, canon7] at h
  intro p hp x
  exact (h p hp x).trans (by rw [boxes_eq])

end first

section later

variable (hc : ¬fills i) (x6 : Vec F S21x4x1024 .f32) (x7 : Vec F S24x1024 .f32) (x8 : Vec F S8x1024 .f32)

/-- After a later point, the boxes' output. -/
theorem later_read4 (f) : arg4.view.read (Elt F) (arg4.view.writes (Elt F) f (runLater c i arg1 harg1 arg2 harg2 arg3 harg3 arg4 harg4 arg5 harg5 arg6 harg6 arg7 harg7 arg8 harg8 x0 x1 x2 hc x6 x7 x8).1)
    = pointBoxes i x6 x7 x8 := by
  refine read_of_pieces _ _ _ _ ?_
    (View.cover_of_tiledL (runLater c i arg1 harg1 arg2 harg2 arg3 harg3 arg4 harg4 arg5 harg5 arg6 harg6 arg7 harg7 arg8 harg8 x0 x1 x2 hc x6 x7 x8).1 S1x1000x4.size (by sl_kernel_rfl))
  unfold runLater; dsimp only
  have h := loop_boxes c i arg1 harg1 arg2 harg2 arg3 harg3 arg4 harg4 arg5 harg5 arg6 harg6 arg7 harg7 arg8 harg8 (BitVec.ofNat 32 (i 0).val) x8 (harg6.unread x6) (harg7.unread x7) k0_t1_loop.trips (le_refl _)
  rw [harg6.read_unread, harg7.read_unread] at h
  rw [readAt_whole2]
  exact h

/-- After a later point, the scores' output. -/
theorem later_read5 (f) : arg5.view.read (Elt F) (arg5.view.writes (Elt F) f (runLater c i arg1 harg1 arg2 harg2 arg3 harg3 arg4 harg4 arg5 harg5 arg6 harg6 arg7 harg7 arg8 harg8 x0 x1 x2 hc x6 x7 x8).2.1)
    = pointScores i x6 x7 x8 := by
  refine read_of_pieces _ _ _ _ ?_
    (View.cover_of_tiledL (runLater c i arg1 harg1 arg2 harg2 arg3 harg3 arg4 harg4 arg5 harg5 arg6 harg6 arg7 harg7 arg8 harg8 x0 x1 x2 hc x6 x7 x8).2.1 S1x1x1000.size (by sl_kernel_rfl))
  unfold runLater; dsimp only
  have h := loop_scores c i arg1 harg1 arg2 harg2 arg3 harg3 arg4 harg4 arg5 harg5 arg6 harg6 arg7 harg7 arg8 harg8 (BitVec.ofNat 32 (i 0).val) x8 (harg6.unread x6) (harg7.unread x7) k0_t1_loop.trips (le_refl _)
  rw [harg6.read_unread, harg7.read_unread] at h
  rw [readAt_whole2]
  exact h

end later

end Cert.KernelIdeal.Hand

end
-- ==== Proof.Ideal.Launch.lean ====
module

public import proofs.«01_k».proof.Proof.Ideal.Reads
public import Idealize.ShloMosaic.Lib.Claim

@[expose] public section

set_option maxRecDepth 16384

noncomputable section

/-!
# The whole launch

The scratch buffers are filled once, at the first grid point, and read unchanged afterwards: so the boxes and scores a
grid point leaves are functions of the three inputs and of the point (`boxesAfter`, `scoresAfter`). With these the
launch is run, point by point, and its frame claim follows.
-/

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, Nat.lt_of_lt_of_eq (by decide : 0 < 4) N_0.symm⟩

/-- What the scratch buffers hold from the first grid point on. -/
def held6 (c : Dev nD) : Vec F S21x4x1024 .f32 := filledOffsets (iblk m c 1 t0)
/-- The second one. -/
def held7 (c : Dev nD) : Vec F S24x1024 .f32 := filledProbs (iblk m c 2 t0)
/-- The third one. -/
def held8 (c : Dev nD) : Vec F S8x1024 .f32 := filledBoxes (iblk m c 0 t0)

/-- The boxes a grid point leaves. -/
def boxesAfter (c : Dev nD) (t : Fin cfg0.N) : Vec F S5x1000x4 .f32 :=
  pointBoxes (grid0.coords t) (held6 m c) (held7 m c) (held8 m c)
/-- The scores a grid point leaves. -/
def scoresAfter (c : Dev nD) (t : Fin cfg0.N) : Vec F S5x1x1000 .f32 :=
  pointScores (grid0.coords t) (held6 m c) (held7 m c) (held8 m c)

/-- Each window's staging buffer at a point. -/
abbrev stg0 (t : Fin cfg0.N) : Memref sig .tc .vmem S1000x4 .f32 := win0_0.stage (cfg0.slots t 0)
abbrev stg1 (t : Fin cfg0.N) : Memref sig .tc .vmem S1000x84 .f32 := win0_1.stage (cfg0.slots t 1)
abbrev stg2 (t : Fin cfg0.N) : Memref sig .tc .vmem S1000x21 .f32 := win0_2.stage (cfg0.slots t 2)
abbrev stg3 (t : Fin cfg0.N) : Memref sig .tc .vmem S5x1000x4 .f32 := win0_3.stage (cfg0.slots t 3)
abbrev stg4 (t : Fin cfg0.N) : Memref sig .tc .vmem S5x1x1000 .f32 := win0_4.stage (cfg0.slots t 4)

/-- The three scratch buffers. -/
abbrev scr0 : Memref sig .tc .vmem S21x4x1024 .f32 := Memref.whole cc0_scratch0
abbrev scr1 : Memref sig .tc .vmem S24x1024 .f32 := Memref.whole cc0_scratch1
abbrev scr2 : Memref sig .tc .vmem S8x1024 .f32 := Memref.whole cc0_scratch2

/-- The scratch buffers holding anything, which is what the launch hands the first point. -/
theorem loose_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The scratch buffers filled. -/
def filled (c : Dev nD) : sProp 𝕄 :=
  iprop(iprop(owns (c : Thread nD τ) scr0 fullShare (held6 m c) ∗ owns (c : Thread nD τ) scr1 fullShare (held7 m c) ∗ owns (c : Thread nD τ) scr2 fullShare (held8 m c)) ∗ (∃ r, prngReg c r))

/-- The state between points: anything before the first, filled after it. -/
def between (c : Dev nD) : (n : ℕ) → n ≤ cfg0.N → sProp 𝕄
  | 0, _ => Pipeline.ΦA spec0 c
  | _ + 1, _ => filled m c

/-- Before the first point. -/
theorem between_zero (c : Dev nD) (n : ℕ) (h : n ≤ cfg0.N) (hz : n = 0) : between m c n h = Pipeline.ΦA spec0 c := by
  subst hz; rfl

/-- Before any other point. -/
theorem between_pos (c : Dev nD) (n : ℕ) (h : n ≤ cfg0.N) (hz : n ≠ 0) : between m c n h = filled m c := by
  cases n with
  | zero => exact absurd rfl hz
  | succ n => rfl

/-- The launch's proof data: what each window's staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => boxesAfter m c t
    | ⟨4, _⟩ => scoresAfter m c t
  Φ t := between m c t.val (Nat.le_of_lt_succ t.isLt)
  q _ := fullShare
  owed _ := 0

/-- The arrays are found at the launch's entry contents. -/
theorem A_eq (c : Dev nD) (w : Fin cfg0.W) : (dats m 0 c).A w = V m c (Pipeline.arrRef spec0 w) := by
  dsimp only [dats]

/-- The state before a point, by the point's number. -/
theorem state_before (c : Dev nD) (t : Fin cfg0.N) :
    (dats m 0 c).Φ t.castSucc = between m c t.val (Nat.le_of_lt t.isLt) := by
  dsimp only [dats]; exact Pipeline.Dat.Φ_castSucc (between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = boxesAfter m c t := by dsimp only [dats]
theorem after_4 (c : Dev nD) (t : Fin cfg0.N) : (dats m 0 c).after 4 t = scoresAfter m c t := by dsimp only [dats]

/-- Every input's staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at a point. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

/-- And what it returns. -/
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t))

set_option maxHeartbeats 6400000 in
/-- The body at any point: the first point's run at the first, the later run at the others. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).owesAt () t.succ = (dats m 0 c).owesAt () t.castSucc from rfl,
    after_0, after_1, after_2, after_3, after_4]
  rw [show (dats m 0 c).Φ t.succ = filled m c from rfl]
  by_cases hz : t.val = 0
  · rw [state_before m c t, between_zero m c _ _ hz, loose_eq]
    obtain rfl : t = t0 := Fin.ext hz
    unfold filled
    iintro ⟨⟨⟨HS0, HS1, HS2⟩, Hg⟩, Ho, ⟨%d0, H0⟩, ⟨%d1, H1⟩, ⟨%d2, H2⟩, ⟨%d3, H3⟩, ⟨%d4, H4⟩⟩
    iapply ((runFirst c (grid0.coords t0) _ _ _ _ _ _ _ _ _ _ _ _ _ _ _ _ (iblk m c 0 t0) (iblk m c 1 t0) (iblk m c 2 t0) ((fills_iff t0).mpr rfl)).2.2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    isplitl [HS2]; · iexact HS2
    iintro ⟨H0, H1, H2, ⟨%e3, H3⟩, ⟨%e4, H4⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact first_read6 c _ _ _ _ _ _ _ _ _ _ _ _ _ _ _ _ _ _ _ _ _ _
        isplitl [HS1]
        · unfold owns; iexists _; isplitr
          swap; · iexact HS1
          ipureintro; exact first_read7 c _ _ _ _ _ _ _ _ _ _ _ _ _ _ _ _ _ _ _ _ _ _
        unfold owns; iexists _; isplitr
        swap; · iexact HS2
        ipureintro; exact first_read8 c _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact first_read4 c _ _ _ _ _ _ _ _ _ _ _ _ _ _ _ _ _ _ _ _ _ _
    unfold owns; iexists _; isplitr
    swap; · iexact H4
    ipureintro; exact first_read5 c _ _ _ _ _ _ _ _ _ _ _ _ _ _ _ _ _ _ _ _ _ _
  · rw [state_before m c t, between_pos m c _ _ hz]
    unfold filled
    iintro ⟨⟨⟨HS0, HS1, HS2⟩, Hg⟩, Ho, ⟨%d0, H0⟩, ⟨%d1, H1⟩, ⟨%d2, H2⟩, ⟨%d3, H3⟩, ⟨%d4, H4⟩⟩
    iapply ((runLater c (grid0.coords t) _ _ _ _ _ _ _ _ _ _ _ _ _ _ _ _ (iblk m c 0 t) (iblk m c 1 t) (iblk m c 2 t) (fun h => hz ((fills_iff t).mp h)) (held6 m c) (held7 m c) (held8 m c)).2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    isplitl [HS2]; · iexact HS2
    iintro ⟨H0, H1, H2, ⟨%e3, H3⟩, ⟨%e4, H4⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact later_read4 c _ _ _ _ _ _ _ _ _ _ _ _ _ _ _ _ _ _ _ _ _ _ _ _ _
    unfold owns; iexists _; isplitr
    swap; · iexact H4
    ipureintro; exact later_read5 c _ _ _ _ _ _ _ _ _ _ _ _ _ _ _ _ _ _ _ _ _ _ _ _ _

/-- The body table's row at a point is the body there. -/
theorem row_eq (t : Fin cfg0.N) :
    defs₀ (F := F) .tc cfg0.body (cfg0.bodyArgs t (cfg0.slots t)) = bodyAt0 t := by
  unfold defs₀; rw [Defs.onTc_tc]

/-- The obligation the launch asks of the body, at every point. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

/-- What the launch hands over is the state before the first point. -/
theorem state_in (c : Dev nD) : Pipeline.ΦA spec0 c ⊢ (dats m 0 c).Φ 0 := by
  rw [show (dats m 0 c).Φ 0 = between m c 0 (Nat.zero_le _) from rfl, between_zero m c 0 _ rfl]

/-- After the last point the scratch buffers' contents are forgotten. -/
theorem state_out (c : Dev nD) : (dats m 0 c).Φ (Fin.last cfg0.N) ⊢ Pipeline.ΦA spec0 c := by
  have hN : (Fin.last cfg0.N).val ≠ 0 := by rw [Fin.val_last]; have : cfg0.N = 4 := N_0; omega
  rw [show (dats m 0 c).Φ (Fin.last cfg0.N) = between m c (Fin.last cfg0.N).val (Nat.le_of_lt_succ (Fin.last cfg0.N).isLt) from rfl,
    between_pos m c _ _ hN, loose_eq]
  unfold filled
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
set_option maxHeartbeats 800000 in
/-- The launch run: every array ends as the proof data say, and every semaphore at zero. -/
theorem launch_run : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := state_in m) (hout := state_out m)

/-- The arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (launch_run m ρ)))
    ((θ_run defs _ _).mono (fun _ h => h.2) (launch_run m ρ))

end Cert.KernelIdeal.Hand

end
-- ==== Proof.Kernel.Launch.lean ====
module

public import proofs.«01_k».proof.Proof.Kernel.Run
public import Idealize.ShloMosaic.Lib.Claim

@[expose] public section

set_option maxRecDepth 16384

noncomputable section

/-!
# The launch of the kernel as compiled: its frame

Only the frame is claimed of the kernel on machine numbers, so nothing is said of what the grid points leave in the
two outputs nor of what the scratch buffers hold between points.
-/

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging buffer at a point. -/
abbrev stg0 (t : Fin cfg0.N) : Memref sig .tc .vmem S1000x4 .f32 := win0_0.stage (cfg0.slots t 0)
abbrev stg1 (t : Fin cfg0.N) : Memref sig .tc .vmem S1000x84 .f32 := win0_1.stage (cfg0.slots t 1)
abbrev stg2 (t : Fin cfg0.N) : Memref sig .tc .vmem S1000x21 .f32 := win0_2.stage (cfg0.slots t 2)
abbrev stg3 (t : Fin cfg0.N) : Memref sig .tc .vmem S5x1000x4 .f32 := win0_3.stage (cfg0.slots t 3)
abbrev stg4 (t : Fin cfg0.N) : Memref sig .tc .vmem S5x1x1000 .f32 := win0_4.stage (cfg0.slots t 4)

/-- The three scratch buffers. -/
abbrev scr0 : Memref sig .tc .vmem S21x4x1024 .f32 := Memref.whole cc0_scratch0
abbrev scr1 : Memref sig .tc .vmem S24x1024 .f32 := Memref.whole cc0_scratch1
abbrev scr2 : Memref sig .tc .vmem S8x1024 .f32 := Memref.whole cc0_scratch2

/-- The scratch buffers holding anything, which is what the launch hands the first point. -/
theorem loose_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The proof data: inputs keep their blocks, the outputs are not spoken of. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => Scalar.ofBits .f32 0#32
    | ⟨4, _⟩ => fun _ => Scalar.ofBits .f32 0#32
  Φ _ := Pipeline.ΦA spec0 c
  q _ := fullShare
  owed _ := 0

/-- The outputs, which are not spoken of. -/
def unsaid : Fin cfg0.W → Bool
  | ⟨0, _⟩ => false
  | ⟨1, _⟩ => false
  | ⟨2, _⟩ => false
  | ⟨3, _⟩ => true
  | ⟨4, _⟩ => true

/-- The arrays are found at the launch's entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

/-- Every input's staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at a point. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare d)
    ∗ (∃ d, owns (c : Thread nD τ) (stg4 t) fullShare d))

/-- And what it returns. -/
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ (∃ d, owns (c : Thread nD τ) (stg3 t) fullShare d)
    ∗ (∃ d, owns (c : Thread nD τ) (stg4 t) fullShare d))

set_option maxHeartbeats 6400000 in
/-- The body at any point: the first point's run at the first, the later run at the others. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).owesAt () t.succ = (dats m 0 c).owesAt () t.castSucc from rfl,
    after_0, after_1, after_2]
  rw [show (dats m 0 c).Φ t.succ = Pipeline.ΦA spec0 c from rfl,
    show (dats m 0 c).Φ t.castSucc = Pipeline.ΦA spec0 c from rfl, loose_eq]
  by_cases hz : fills (grid0.coords t)
  · iintro ⟨⟨⟨HS0, HS1, HS2⟩, Hg⟩, Ho, ⟨%d0, H0⟩, ⟨%d1, H1⟩, ⟨%d2, H2⟩, H3, H4⟩
    iapply ((runFirst c (grid0.coords t) _ _ _ _ _ _ _ _ _ _ _ _ _ _ _ _ (iblk m c 0 t) (iblk m c 1 t) (iblk m c 2 t) hz).2.2.2.2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, ⟨%e3, H3⟩, ⟨%e4, H4⟩, ⟨%es0, HS0⟩, ⟨%es1, HS1⟩, ⟨%es2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]
    · iexists _; unfold owns; iexists _; isplitr
      swap; · iexact H3
      ipureintro; rfl
    iexists _; unfold owns; iexists _; isplitr
    swap; · iexact H4
    ipureintro; rfl
  · iintro ⟨⟨⟨⟨%s0, HS0⟩, ⟨%s1, HS1⟩, ⟨%s2, HS2⟩⟩, Hg⟩, Ho, ⟨%d0, H0⟩, ⟨%d1, H1⟩, ⟨%d2, H2⟩, H3, H4⟩
    iapply ((runLater c (grid0.coords t) _ _ _ _ _ _ _ _ _ _ _ _ _ _ _ _ (iblk m c 0 t) (iblk m c 1 t) (iblk m c 2 t) hz s0 s1 s2).2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, ⟨%e3, H3⟩, ⟨%e4, H4⟩, HS0, HS1, HS2⟩
    isplitl [HS0 HS1 HS2 Hg]
    · isplitl [HS0 HS1 HS2]
      · isplitl [HS0]
        · iexists _; iexact HS0
        isplitl [HS1]
        · iexists _; iexact HS1
        iexists _; iexact HS2
      iexact Hg
    isplitl [Ho]; · iexact Ho
    isplitl [H0]; · iexact H0
    isplitl [H1]; · iexact H1
    isplitl [H2]; · iexact H2
    isplitl [H3]
    · iexists _; unfold owns; iexists _; isplitr
      swap; · iexact H3
      ipureintro; rfl
    iexists _; unfold owns; iexists _; isplitr
    swap; · iexact H4
    ipureintro; rfl

/-- The body table's row at a point is the body there. -/
theorem row_eq (t : Fin cfg0.N) :
    defs₀ (F := F) .tc cfg0.body (cfg0.bodyArgs t (cfg0.slots t)) = bodyAt0 t := by
  unfold defs₀; rw [Defs.onTc_tc]

/-- The obligation the launch asks of the body, at every point. -/
theorem obligation (c : Dev nD) :
    BodyObligation (dats (F := F) m 0 c) (defs₀ (F := F)) Variants.none () Set.univ unsaid := fun t => by
  rw [bigSep_W0, bigSep_W0, row_eq]
  exact triple_restated (body_at m c t) rfl .rfl fun _ => .rfl

/-- The operation after the launch writes the second result only. -/
theorem tail_writes : ∀ ops ∈ ([hostOps1] : List (List (HloOp τ sig (Elt F)))), ∀ op ∈ ops, ∀ b : Ref sig .tc,
    Proc.devRef .tc b ∈ op.writes → b ∈ ({main_v0_1} : Finset (Ref sig .tc)) := by
  intro ops hops op hop b hb
  obtain rfl := List.mem_singleton.mp hops
  obtain rfl := List.mem_singleton.mp hop
  simp only [StableHlo.reshape_writes, Finset.mem_singleton] at hb
  by_contra hne
  exact StableHlo.devRef_ne_of_ne (fun h => hne (Finset.mem_singleton.mpr h)) hb

set_option backward.isDefEq.respectTransparency.types false in
set_option maxHeartbeats 800000 in
/-- The launch run: every input array ends as it was, and every semaphore at zero. -/
theorem launch_run : θ_run defs (onTc (τ := τ) (main (F := F))) (s₀ m ρ)
    (fun r => Pipeline.RDat.FramePostR (cfgs 0) (fun c => (dats m 0 c).toRForget unsaid) {main_v0_1} (V m) r
      ∧ r.2.sem = fun _ => 0) :=
  Pipeline.θ_run_frame_around_T_forget (Q' := _) cfgs (dats m) (0 : Fin 1) launch0 defs₀ Variants.none unsaid {main_v0_1} m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- An input array ends as it was found. -/
theorem input_end (c : Dev nD) (w : Fin cfg0.W) (hin : (cfg0.win w).isOut = false) (r : PUnit × MemSt nD τ sig (Elt F))
    (h : Pipeline.RDat.FramePostR (cfgs 0) (fun c => (dats m 0 c).toRForget unsaid) {main_v0_1} (V m) r) :
    r.2.mem ((cfg0.spec w).arr.view.loc (c.tc : Thread nD τ)) = V m c (Pipeline.arrRef spec0 w) := by
  have e := (h c).1 w
  rw [Pipeline.RDat.ArrAt_in _ w hin] at e
  exact e.trans (A_eq m c w)

/-- The arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨input_end m c 0 rfl r h.1, input_end m c 1 rfl r h.1, input_end m c 2 rfl r h.1⟩, h.2⟩)
    (launch_run m ρ)

end Cert.Kernel.Hand

end
-- ==== Proof.Frames.lean ====
/- What the two programs keep, and what the idealization keeps: the reference leaves its arguments and every
   counter as it found them, and the named constants of the kernel denote the numbers they were named for. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference runs to its end, its three arguments unchanged; it declares no counter, so all of them end at zero. -/
theorem reference_frame : Cert.quiescent_ReferenceIdeal (hReferenceIdeal := Cert.ReferenceIdeal.Gen.facts) := fun m ρ _ =>
  (θ_run _ _ _).mono (fun _ h => ⟨fun c => (h c).2.2, sem_eq_zero_of_no_sems (by decide) _⟩)
    (Cert.ReferenceIdeal.Value.run m ρ)

/-- The padding stands for minus infinity, the scale of the areas for `t / (1 + t)`, `t` being the
    reference's threshold, 0.3 as a float word. -/
theorem preserves : Cert.preserves_Kernel_KernelIdeal :=
  ⟨IdealRules.named_const.statement Cert.KernelIdeal.κ "pad" .f32 0xF149F2CA#32 ⊥ rfl,
   IdealRules.named_const.statement Cert.KernelIdeal.κ "ratio" .f32 0x3E6C4EC5#32 ((5033165 / 21810381 : ℝ) : EReal) rfl⟩

end Cert.Proof

end
-- ==== Proof.Value.Tile.lean ====
module

public import proofs.«01_k».proof.Proof.Ideal.Trip
public import Idealize.ShloMosaic.Lib.ValueIdx
public import Idealize.ShloMosaic.Lib.Pipeline.Value
public import Idealize.ShloMosaic.PureOps.Ideal.Laws

@[expose] public section

set_option maxRecDepth 16384

noncomputable section

/-!
# The pairwise tests of a trip, read at an index over the extended reals

`suppressed` is computed in 64 tiles. Read at box `i` it says: some box `j` overlaps `i` too much and comes before
it. The three ways a tile decides "before" are one relation: a higher score, or an equal score and a smaller index.
-/

namespace Cert.KernelIdeal.Hand

open Cert.KernelIdeal.Gen
open Idealize.ShloMosaic Idealize.ShloMosaic.TcCoe Idealize.ShloMosaic.ValueIdx

/-- A bit made from a truth value is set exactly when it is true. -/
theorem ofBool_eq_one {b : Bool} : BitVec.ofBool b = 1#1 ↔ b = true := by cases b <;> decide

theorem and_eq_one (a b : BitVec 1) : IntOp.andi a b = 1#1 ↔ a = 1#1 ∧ b = 1#1 := by
  revert a b; decide

theorem or_eq_one (a b : BitVec 1) : IntOp.ori a b = 1#1 ↔ a = 1#1 ∨ b = 1#1 := by
  revert a b; decide

theorem xor_one_eq_one (a : BitVec 1) : IntOp.xori a 1#1 = 1#1 ↔ ¬ a = 1#1 := by
  revert a; decide

theorem cmp_gt_eq_one (p q : EReal) : Ideal.cmp .ogt p q = 1#1 ↔ q < p := by
  unfold Ideal.cmp
  rw [ofBool_eq_one]
  exact decide_eq_true_iff

/-- A way to decide "before" in the tile at rows `j0 …`, columns `i0 …` is right when it is the one relation. -/
def Decides (before : FVec Ideal S128x128 .f32 → FVec Ideal S128x128 .f32 → IVec S128x128 1) (j0 i0 : ℕ) : Prop :=
  ∀ (s t : FVec Ideal S128x128 .f32) (x y : Fin 128),
    before s t (ix2 x y) = 1#1 ↔ t (ix2 x y) < s (ix2 x y) ∨ (s (ix2 x y) = t (ix2 x y) ∧ j0 + x.val < i0 + y.val)

theorem earlier_mask (x y : Fin 128) : k0_pay8 (ix2 x y) = 1#1 ↔ x.val < y.val := by
  unfold k0_pay8
  dsimp only
  show IntOp.cmpi .slt _ _ = 1#1 ↔ _
  rw [broadcastTo_apply _ broadcasts_S128x1_S128x128 (ix2 x y) (ix2 x (0 : Fin 1))
      (fun a => match a with | ⟨0, _⟩ => rfl | ⟨1, _⟩ => rfl),
    broadcastTo_apply _ broadcasts_S1x128_S128x128 (ix2 x y) (ix2 (0 : Fin 1) y)
      (fun a => match a with | ⟨0, _⟩ => rfl | ⟨1, _⟩ => rfl), iota_single_apply, iota_single_apply]
  show IntOp.cmpi .slt (BitVec.ofNat 32 x.val) (BitVec.ofNat 32 y.val) = 1#1 ↔ _
  have hx := x.isLt
  have hy := y.isLt
  rw [IntOp.cmpi, ofBool_eq_one]
  show (BitVec.ofNat 32 x.val).slt (BitVec.ofNat 32 y.val) = true ↔ _
  have small : ∀ n : ℕ, n < 128 → (BitVec.ofNat 32 n).toInt = n := fun n hn => by
    rw [BitVec.toInt_eq_toNat_of_lt (by rw [BitVec.toNat_ofNat]; omega), BitVec.toNat_ofNat]; omega
  rw [BitVec.slt_eq_decide, decide_eq_true_iff, small _ hx, small _ hy]
  omega

theorem onDiagonal_decides (j0 : ℕ) : Decides onDiagonal j0 j0 := by
  intro s t x y
  show IntOp.ori (Ideal.cmp .ogt _ _) (IntOp.andi (Ideal.cmp .oeq _ _) _) = 1#1 ↔ _
  rw [or_eq_one, and_eq_one, earlier_mask]
  simp only [Ideal.cmp, ofBool_eq_one, decide_eq_true_iff]
  constructor
  · rintro (h | ⟨h, h'⟩)
    · exact .inl h
    · exact .inr ⟨h, by omega⟩
  · rintro (h | ⟨h, h'⟩)
    · exact .inl h
    · exact .inr ⟨h, by omega⟩

theorem beforeDiagonal_decides (j0 i0 : ℕ) (h : j0 + 128 ≤ i0) : Decides beforeDiagonal j0 i0 := by
  intro s t x y
  show Ideal.cmp .oge _ _ = 1#1 ↔ _
  simp only [Ideal.cmp, ofBool_eq_one, decide_eq_true_iff]
  have hx := x.isLt
  constructor
  · intro h'
    rcases h'.lt_or_eq with h' | h'
    · exact .inl h'
    · exact .inr ⟨h'.symm, by omega⟩
  · rintro (h' | ⟨h', _⟩)
    · exact h'.le
    · exact h'.ge

theorem afterDiagonal_decides (j0 i0 : ℕ) (h : i0 + 128 ≤ j0) : Decides afterDiagonal j0 i0 := by
  intro s t x y
  show Ideal.cmp .ogt _ _ = 1#1 ↔ _
  simp only [Ideal.cmp, ofBool_eq_one, decide_eq_true_iff]
  have hy := y.isLt
  constructor
  · exact .inl
  · rintro (h' | ⟨_, h'⟩)
    · exact h'
    · omega

/-- The maximum of a column of a tile, as a fold. -/
theorem max_column (v : FVec Ideal S128x128 .f32) (y : Fin 128) :
    multiReduction (F := Ideal) .maximumf [0] S128 v 0xFF800000#32 reduces_S128x128_S128 (.inl rfl) rfl (ix1 y)
      = (Finset.univ : Finset (Fin 128)).fold max (Ideal.ofBits .f32 0xFF800000#32) fun x => v (ix2 x y) := by
  refine (Ideal.multiReduction_maximumf_single v _ reduces_S128x128_S128 (.inl rfl) rfl (ix1 y)).trans ?_
  refine congrArg (fun g => (Finset.univ : Finset (Fin 128)).fold max (Ideal.ofBits .f32 0xFF800000#32) g) (funext fun x => ?_)
  refine congrArg v (funext fun a => ?_)
  match a with
  | ⟨0, _⟩ => rfl
  | ⟨1, _⟩ => rfl

/-- A column of a tile has a positive maximum when one of its entries is positive. -/
theorem max_column_pos (v : FVec Ideal S128x128 .f32) (y : Fin 128) :
    cmpf .ogt (multiReduction (F := Ideal) .maximumf [0] S128 v 0xFF800000#32 reduces_S128x128_S128 (.inl rfl) rfl)
      (broadcast S128 (Scalar.ofBits .f32 0x00000000#32)) (ix1 y) = 1#1 ↔ ∃ x : Fin 128, 0 < v (ix2 x y) := by
  rw [cmpf_apply, Ideal.cmpf_def, cmp_gt_eq_one, max_column]
  have hz : broadcast S128 (Scalar.ofBits (F := Ideal) .f32 0x00000000#32) (ix1 y) = (0 : EReal) := Ideal.ofBits_zero_f32
  rw [hz]
  refine (Finset.lt_fold_max (s := Finset.univ) (c := (0 : EReal))).trans ?_
  have hbot : ¬ ((0 : EReal) < Ideal.ofBits .f32 0xFF800000#32) := by simp [Ideal.ofBits, Ideal.ieee]
  constructor
  · rintro (h | ⟨x, _, hx⟩)
    · exact absurd h hbot
    · exact ⟨x, hx⟩
  · rintro ⟨x, hx⟩
    exact .inr ⟨x, Finset.mem_univ _, hx⟩

/-- Over the extended reals: a column of a tile of bits is marked when one of its bits is set. -/
theorem anyRow_apply (b : IVec S128x128 1) (y : Fin 128) :
    anyRow (F := Ideal) b (ix2 0 y) = 1#1 ↔ ∃ x : Fin 128, b (ix2 x y) = 1#1 := by
  unfold anyRow
  rw [shapeCast_apply _ shapeCasts_S128_S1x128 (ix2 (0 : Fin 1) y) (ix1 y) (by
    rw [Shape.rowMajor_val_one, Shape.rowMajor_val_two]; simp)]
  refine (max_column_pos _ y).trans (exists_congr fun x => ?_)
  show (0 : EReal) < Scalar.select (b (ix2 x y)) (Ideal.ofBits .f32 0x3F800000#32) (Ideal.ofBits .f32 0x00000000#32) ↔ _
  rw [Ideal.ofBits_zero_f32]
  have h1 : (0 : EReal) < Ideal.ofBits .f32 0x3F800000#32 := by
    simp [Ideal.ofBits, Ideal.ieee, -EReal.coe_mul]
  generalize b (ix2 x y) = c
  rcases (by revert c; decide : c = 1#1 ∨ c = 0#1) with h | h
  · rw [h]; exact ⟨fun _ => rfl, fun _ => h1⟩
  · rw [h]; exact ⟨fun h' => absurd h' (lt_irrefl _), fun h' => absurd h' (by decide)⟩

section tiles

variable (P : FVec Ideal S1024x8 .f32) (y1 x1 y2 x2 a s : FVec Ideal S1x1024 .f32)

/-- Box `j` of the table and box `i` of the rows overlap in more than the sum of their scaled areas. -/
def Overlaps (j i : Fin 1024) : Prop :=
  P (ix2 j 4) + a (ix2 0 i)
    < max (min (P (ix2 j 2)) (y2 (ix2 0 i)) - max (P (ix2 j 0)) (y1 (ix2 0 i))) 0
      * max (min (P (ix2 j 3)) (x2 (ix2 0 i)) - max (P (ix2 j 1)) (x1 (ix2 0 i))) 0

/-- Box `j` of the table comes before box `i` of the rows. -/
def Precedes (j i : Fin 1024) : Prop :=
  s (ix2 0 i) < P (ix2 j 5) ∨ (P (ix2 j 5) = s (ix2 0 i) ∧ j.val < i.val)

theorem down_apply (j0 : ℕ) (k : ℕ) (hk8 : k < 8) (hj : S1024x8.Slices ![j0, 0] S128x8) (hk : S128x8.Slices ![0, k] S128x1)
    (h : j0 + 128 ≤ 1024) (x y : Fin 128) :
    down P j0 k hj hk (ix2 x y) = P (ix2 ⟨j0 + x.val, by omega⟩ ⟨k, hk8⟩) := by
  unfold down
  rw [broadcastTo_apply _ broadcasts_S128x1_S128x128 (ix2 x y) (ix2 x (0 : Fin 1))
      (fun a => match a with | ⟨0, _⟩ => rfl | ⟨1, _⟩ => rfl),
    extractStridedSlice_apply _ _ hk (ix2 x (0 : Fin 1)) (ix2 x ⟨k, hk8⟩)
      (fun a => match a with | ⟨0, _⟩ => (Nat.zero_add _).symm | ⟨1, _⟩ => rfl),
    extractStridedSlice_apply _ _ hj (ix2 x ⟨k, hk8⟩) (ix2 ⟨j0 + x.val, by omega⟩ ⟨k, hk8⟩)
      (fun a => match a with | ⟨0, _⟩ => rfl | ⟨1, _⟩ => (Nat.zero_add _).symm)]

theorem across_apply (r : FVec Ideal S1x1024 .f32) (i0 : ℕ) (hi : S1x1024.Slices ![0, i0] S1x128)
    (h : i0 + 128 ≤ 1024) (x y : Fin 128) :
    across r i0 hi (ix2 x y) = r (ix2 0 ⟨i0 + y.val, by omega⟩) := by
  unfold across
  rw [broadcastTo_apply _ broadcasts_S1x128_S128x128 (ix2 x y) (ix2 (0 : Fin 1) y)
      (fun a => match a with | ⟨0, _⟩ => rfl | ⟨1, _⟩ => rfl),
    extractStridedSlice_apply _ _ hi (ix2 (0 : Fin 1) y) (ix2 0 ⟨i0 + y.val, by omega⟩)
      (fun a => match a with | ⟨0, _⟩ => rfl | ⟨1, _⟩ => rfl)]

theorem tile_apply (j0 i0 : ℕ) (hj : S1024x8.Slices ![j0, 0] S128x8) (hi : S1x1024.Slices ![0, i0] S1x128)
    (before : FVec Ideal S128x128 .f32 → FVec Ideal S128x128 .f32 → IVec S128x128 1) (hb : Decides before j0 i0)
    (h : j0 + 128 ≤ 1024) (h' : i0 + 128 ≤ 1024) (y : Fin 128) :
    tile P y1 x1 y2 x2 a s j0 i0 hj hi before (ix2 0 y) = 1#1 ↔
      ∃ x : Fin 128, Overlaps P y1 x1 y2 x2 a ⟨j0 + x.val, by omega⟩ ⟨i0 + y.val, by omega⟩
        ∧ Precedes P s ⟨j0 + x.val, by omega⟩ ⟨i0 + y.val, by omega⟩ := by
  unfold tile
  rw [anyRow_apply]
  refine exists_congr fun x => ?_
  unfold tilePairs
  show IntOp.andi (Ideal.cmp .ogt (max (min _ _ - max _ _) _ * max (min _ _ - max _ _) _) (_ + _)) _ = 1#1 ↔ _
  rw [and_eq_one, hb]
  rw [down_apply P j0 5 (by omega) hj _ h, across_apply s i0 hi h', down_apply P j0 4 (by omega) hj _ h, across_apply a i0 hi h',
    down_apply P j0 0 (by omega) hj _ h, across_apply y1 i0 hi h', down_apply P j0 1 (by omega) hj _ h, across_apply x1 i0 hi h',
    down_apply P j0 2 (by omega) hj _ h, across_apply y2 i0 hi h', down_apply P j0 3 (by omega) hj _ h, across_apply x2 i0 hi h']
  have hz : (zeroTile : FVec Ideal S128x128 .f32) (ix2 x y) = 0 := Ideal.ofBits_zero_f32
  rw [hz]
  simp only [Ideal.cmp, ofBool_eq_one, decide_eq_true_iff]
  exact Iff.rfl

/-- Box `i` is suppressed by some box. -/
def Hit (i : Fin 1024) : Prop := ∃ j : Fin 1024, Overlaps P y1 x1 y2 x2 a j i ∧ Precedes P s j i

/-- An index below 1024 lies in one of eight blocks of 128. -/
theorem exists_block (p : Fin 1024 → Prop) :
    (∃ j, p j) ↔ (((((((∃ x : Fin 128, p ⟨0 + x.val, by omega⟩) ∨ ∃ x : Fin 128, p ⟨128 + x.val, by omega⟩)
      ∨ ∃ x : Fin 128, p ⟨256 + x.val, by omega⟩) ∨ ∃ x : Fin 128, p ⟨384 + x.val, by omega⟩)
      ∨ ∃ x : Fin 128, p ⟨512 + x.val, by omega⟩) ∨ ∃ x : Fin 128, p ⟨640 + x.val, by omega⟩)
      ∨ ∃ x : Fin 128, p ⟨768 + x.val, by omega⟩) ∨ ∃ x : Fin 128, p ⟨896 + x.val, by omega⟩ := by
  constructor
  · rintro ⟨j, hj⟩
    have put : ∀ b : ℕ, b ≤ j.val → j.val < b + 128 → ∀ hb : b + 128 ≤ 1024,
        ∃ x : Fin 128, p ⟨b + x.val, by omega⟩ := fun b h h' hb =>
      ⟨⟨j.val - b, by omega⟩, by
        have e : (⟨b + (j.val - b), by omega⟩ : Fin 1024) = j := Fin.ext (by show b + (j.val - b) = j.val; omega)
        show p ⟨b + (j.val - b), _⟩
        rw [e]; exact hj⟩
    have hlt := j.isLt
    by_cases h0 : j.val < 128
    · exact .inl (.inl (.inl (.inl (.inl (.inl (.inl (put 0 (by omega) (by omega) (by omega))))))))
    by_cases h1 : j.val < 256
    · exact .inl (.inl (.inl (.inl (.inl (.inl (.inr (put 128 (by omega) (by omega) (by omega))))))))
    by_cases h2 : j.val < 384
    · exact .inl (.inl (.inl (.inl (.inl (.inr (put 256 (by omega) (by omega) (by omega)))))))
    by_cases h3 : j.val < 512
    · exact .inl (.inl (.inl (.inl (.inr (put 384 (by omega) (by omega) (by omega))))))
    by_cases h4 : j.val < 640
    · exact .inl (.inl (.inl (.inr (put 512 (by omega) (by omega) (by omega)))))
    by_cases h5 : j.val < 768
    · exact .inl (.inl (.inr (put 640 (by omega) (by omega) (by omega))))
    by_cases h6 : j.val < 896
    · exact .inl (.inr (put 768 (by omega) (by omega) (by omega)))
    · exact .inr (put 896 (by omega) (by omega) (by omega))
  · rintro (((((((⟨x, h⟩ | ⟨x, h⟩) | ⟨x, h⟩) | ⟨x, h⟩) | ⟨x, h⟩) | ⟨x, h⟩) | ⟨x, h⟩) | ⟨x, h⟩) <;> exact ⟨_, h⟩

theorem column_apply (i0 : ℕ) (hi : S1x1024.Slices ![0, i0] S1x128) (h' : i0 + 128 ≤ 1024)
    (b0 b1 b2 b3 b4 b5 b6 b7 : FVec Ideal S128x128 .f32 → FVec Ideal S128x128 .f32 → IVec S128x128 1)
    (d0 : Decides b0 0 i0) (d1 : Decides b1 128 i0) (d2 : Decides b2 256 i0) (d3 : Decides b3 384 i0)
    (d4 : Decides b4 512 i0) (d5 : Decides b5 640 i0) (d6 : Decides b6 768 i0) (d7 : Decides b7 896 i0) (y : Fin 128) :
    column P y1 x1 y2 x2 a s i0 hi b0 b1 b2 b3 b4 b5 b6 b7 (ix2 0 y) = 1#1
      ↔ Hit P y1 x1 y2 x2 a s ⟨i0 + y.val, by omega⟩ := by
  unfold Hit
  rw [exists_block]
  unfold column
  show IntOp.ori (IntOp.ori (IntOp.ori (IntOp.ori (IntOp.ori (IntOp.ori (IntOp.ori _ _) _) _) _) _) _) _ = 1#1 ↔ _
  rw [or_eq_one, or_eq_one, or_eq_one, or_eq_one, or_eq_one, or_eq_one, or_eq_one,
    tile_apply P y1 x1 y2 x2 a s 0 i0 _ hi b0 d0 (by omega) h', tile_apply P y1 x1 y2 x2 a s 128 i0 _ hi b1 d1 (by omega) h',
    tile_apply P y1 x1 y2 x2 a s 256 i0 _ hi b2 d2 (by omega) h', tile_apply P y1 x1 y2 x2 a s 384 i0 _ hi b3 d3 (by omega) h',
    tile_apply P y1 x1 y2 x2 a s 512 i0 _ hi b4 d4 (by omega) h', tile_apply P y1 x1 y2 x2 a s 640 i0 _ hi b5 d5 (by omega) h',
    tile_apply P y1 x1 y2 x2 a s 768 i0 _ hi b6 d6 (by omega) h', tile_apply P y1 x1 y2 x2 a s 896 i0 _ hi b7 d7 (by omega) h']

/-- What holds of eight blocks side by side, block by block, holds of their concatenation. -/
theorem blocks_forall (Q : Fin 1024 → BitVec 1 → Prop) (c0 c1 c2 c3 c4 c5 c6 c7 : IVec S1x128 1)
    (h0 : ∀ y : Fin 128, Q ⟨0 + y.val, by omega⟩ (c0 (ix2 0 y))) (h1 : ∀ y : Fin 128, Q ⟨128 + y.val, by omega⟩ (c1 (ix2 0 y)))
    (h2 : ∀ y : Fin 128, Q ⟨256 + y.val, by omega⟩ (c2 (ix2 0 y))) (h3 : ∀ y : Fin 128, Q ⟨384 + y.val, by omega⟩ (c3 (ix2 0 y)))
    (h4 : ∀ y : Fin 128, Q ⟨512 + y.val, by omega⟩ (c4 (ix2 0 y))) (h5 : ∀ y : Fin 128, Q ⟨640 + y.val, by omega⟩ (c5 (ix2 0 y)))
    (h6 : ∀ y : Fin 128, Q ⟨768 + y.val, by omega⟩ (c6 (ix2 0 y))) (h7 : ∀ y : Fin 128, Q ⟨896 + y.val, by omega⟩ (c7 (ix2 0 y)))
    (hc : Shape.Concatenates [S1x128, S1x128, S1x128, S1x128, S1x128, S1x128, S1x128, S1x128] S1x1024 1) (i : Fin 1024) :
    Q i (concatenate S1x1024 1 [⟨S1x128, c0⟩, ⟨S1x128, c1⟩, ⟨S1x128, c2⟩, ⟨S1x128, c3⟩, ⟨S1x128, c4⟩, ⟨S1x128, c5⟩,
      ⟨S1x128, c6⟩, ⟨S1x128, c7⟩] hc (ix2 0 i)) := by
  have step : ∀ (k : ℕ) (b : ℕ) (c : IVec S1x128 1) (hb : b + 128 ≤ 1024)
      (hk : k < 8)
      (hxk : [(⟨S1x128, c0⟩ : (s : Shape) × (s.Idx → BitVec 1)), ⟨S1x128, c1⟩, ⟨S1x128, c2⟩, ⟨S1x128, c3⟩, ⟨S1x128, c4⟩, ⟨S1x128, c5⟩,
        ⟨S1x128, c6⟩, ⟨S1x128, c7⟩][k] = ⟨S1x128, c⟩)
      (hpre : ((([(⟨S1x128, c0⟩ : (s : Shape) × (s.Idx → BitVec 1)), ⟨S1x128, c1⟩, ⟨S1x128, c2⟩, ⟨S1x128, c3⟩, ⟨S1x128, c4⟩, ⟨S1x128, c5⟩,
        ⟨S1x128, c6⟩, ⟨S1x128, c7⟩].take k).map (·.1)).map fun s : Shape => if h : s.rank = S1x1024.rank then s.size ((1 : Fin S1x1024.rank).cast h.symm) else 0).sum = b)
      (hq : ∀ y : Fin 128, Q ⟨b + y.val, by omega⟩ (c (ix2 0 y))) (hlo : b ≤ i.val) (hhi : i.val < b + 128),
      Q i (concatenate S1x1024 1 [⟨S1x128, c0⟩, ⟨S1x128, c1⟩, ⟨S1x128, c2⟩, ⟨S1x128, c3⟩, ⟨S1x128, c4⟩, ⟨S1x128, c5⟩,
        ⟨S1x128, c6⟩, ⟨S1x128, c7⟩] hc (ix2 0 i)) := by
    intro k b c hb hk hxk hpre hq hlo hhi
    have e := concatenate_apply_piece (t := S1x1024) 1 [(⟨S1x128, c0⟩ : (s : Shape) × (s.Idx → BitVec 1)), ⟨S1x128, c1⟩, ⟨S1x128, c2⟩, ⟨S1x128, c3⟩, ⟨S1x128, c4⟩, ⟨S1x128, c5⟩,
        ⟨S1x128, c6⟩, ⟨S1x128, c7⟩] hc (ix2 0 i) k hk S1x128 c hxk rfl b hpre (ix2 0 ⟨i.val - b, by omega⟩)
      (fun d hd => match d with
        | ⟨0, _⟩ => rfl
        | ⟨1, _⟩ => absurd rfl hd)
      (by show b + (i.val - b) = i.val; omega)
    rw [e]
    have := hq ⟨i.val - b, by omega⟩
    have e : (⟨b + (i.val - b), by omega⟩ : Fin 1024) = i := Fin.ext (by show b + (i.val - b) = i.val; omega)
    simp only [e] at this
    exact this
  have hlt := i.isLt
  by_cases g0 : i.val < 128
  · exact step 0 0 c0 (by omega) (by omega) rfl rfl h0 (by omega) (by omega)
  by_cases g1 : i.val < 256
  · exact step 1 128 c1 (by omega) (by omega) rfl rfl h1 (by omega) (by omega)
  by_cases g2 : i.val < 384
  · exact step 2 256 c2 (by omega) (by omega) rfl rfl h2 (by omega) (by omega)
  by_cases g3 : i.val < 512
  · exact step 3 384 c3 (by omega) (by omega) rfl rfl h3 (by omega) (by omega)
  by_cases g4 : i.val < 640
  · exact step 4 512 c4 (by omega) (by omega) rfl rfl h4 (by omega) (by omega)
  by_cases g5 : i.val < 768
  · exact step 5 640 c5 (by omega) (by omega) rfl rfl h5 (by omega) (by omega)
  by_cases g6 : i.val < 896
  · exact step 6 768 c6 (by omega) (by omega) rfl rfl h6 (by omega) (by omega)
  · exact step 7 896 c7 (by omega) (by omega) rfl rfl h7 (by omega) (by omega)

/-- Over the extended reals, box `i` is marked exactly when some box suppresses it. -/
theorem suppressed_apply (i : Fin 1024) :
    suppressed P y1 x1 y2 x2 a s (ix2 0 i) = 1#1 ↔ Hit P y1 x1 y2 x2 a s i := by
  unfold suppressed
  refine blocks_forall (fun i b => b = 1#1 ↔ Hit P y1 x1 y2 x2 a s i) _ _ _ _ _ _ _ _ ?_ ?_ ?_ ?_ ?_ ?_ ?_ ?_ _ i <;>
  · intro y
    apply column_apply <;>
    first
    | exact onDiagonal_decides _
    | exact beforeDiagonal_decides _ _ (by omega)
    | exact afterDiagonal_decides _ _ (by omega)
    | omega

end tiles

end Cert.KernelIdeal.Hand

end
-- ==== Proof.Value.Nms.lean ====
module

public import Idealize.ShloMosaic.Lib.ValueIdx
public import Idealize.ShloMosaic.PureOps.Ideal.Laws
public import Mathlib.Tactic.Linarith
public import Mathlib.Tactic.FieldSimp
public import Mathlib.Tactic.Positivity
public import Mathlib.Tactic.NormNum
public import Mathlib.Tactic.Ring

@[expose] public section

noncomputable section

/-!
# Decoding, scoring and suppression in plain mathematics

What the two programs compute, over the extended reals, stated once: a box decoded from a region proposal and its four
offsets, clipped to the image; a class probability from the logits; and the scores left after suppression. The
main theorem is the arithmetic that makes the two overlap tests agree: the reference divides the intersection by the
union and compares with the threshold `t`; the kernel compares the intersection with `t / (1 + t)` times the sum of
the areas.
-/

namespace Cert.Nms

open Idealize.ShloMosaic Idealize.ShloMosaic.ValueIdx

/-! ## The literals -/

abbrev half : EReal := Ideal.ofBits .f32 0x3F000000#32
abbrev height : EReal := Ideal.ofBits .f32 0x44160000#32
abbrev width : EReal := Ideal.ofBits .f32 0x44480000#32
/-- The score a box has to exceed. -/
abbrev low : EReal := Ideal.ofBits .f32 0x3D4CCCCD#32
/-- The overlap a box must not exceed. -/
abbrev thresh : EReal := Ideal.ofBits .f32 0x3E99999A#32
/-- The smallest divisor of the overlap quotient. -/
abbrev tiny : EReal := Ideal.ofBits .f32 0x322BCC77#32
/-- The kernel's factor of the areas. -/
abbrev ratio : EReal := ((5033165 / 21810381 : ℝ) : EReal)

theorem height_eq : height = ((600 : ℝ) : EReal) := by
  simp [Ideal.ofBits, Ideal.ieee, -EReal.coe_mul]; norm_num

theorem width_eq : width = ((800 : ℝ) : EReal) := by
  simp [Ideal.ofBits, Ideal.ieee, -EReal.coe_mul]; norm_num

theorem thresh_eq : thresh = ((5033165 / 16777216 : ℝ) : EReal) := by
  simp [Ideal.ofBits, Ideal.ieee, -EReal.coe_mul]; norm_num

theorem tiny_eq : tiny = ((11258999 / 2 ^ 50 : ℝ) : EReal) := by
  simp [Ideal.ofBits, Ideal.ieee, -EReal.coe_mul]; norm_num

theorem low_eq : low = ((13421773 / 2 ^ 28 : ℝ) : EReal) := by
  simp [Ideal.ofBits, Ideal.ieee, -EReal.coe_mul]; norm_num

/-! ## A box -/

section box

variable (M d e a b : EReal)

/-- The middle of a side, from its offset and the proposal's two edges. -/
def center : EReal := d * (b - a) + (a + half * (b - a))
/-- The length of a side, from its logarithmic scale and the proposal's two edges. -/
def extent : EReal := Ideal.exp e * (b - a)
/-- The lower edge, clipped. -/
def lowEdge : EReal := min M (max 0 (center d a b - half * extent e a b))
/-- The upper edge, clipped. -/
def highEdge : EReal := min M (max 0 (center d a b + half * extent e a b))

end box

/-- The four edges of a box. -/
structure Box where
  y1 : EReal
  x1 : EReal
  y2 : EReal
  x2 : EReal

/-- The edges of a box by number. -/
def Box.edge (b : Box) : Fin 4 → EReal := ![b.y1, b.x1, b.y2, b.x2]

/-- The area of a box, an empty one's being zero. -/
def Box.area (b : Box) : EReal := max (b.y2 - b.y1) 0 * max (b.x2 - b.x1) 0

/-- The area two boxes share. -/
def Box.inter (b c : Box) : EReal :=
  max (min b.y2 c.y2 - max b.y1 c.y1) 0 * max (min b.x2 c.x2 - max b.x1 c.x1) 0

/-- All four edges are real numbers. -/
def Box.Finite (b : Box) : Prop := ∃ p q r s : ℝ, b = ⟨p, q, r, s⟩

/-- The box of class `q` decoded from proposal `r`. -/
def box (x0 : (⟨2, ![1000, 4]⟩ : Shape).Idx → EReal) (x1 : (⟨2, ![1000, 84]⟩ : Shape).Idx → EReal) (q : Fin 20) (r : Fin 1000) : Box where
  y1 := lowEdge height (x1 (ix2 r ⟨4 * (q.val + 1), by omega⟩)) (x1 (ix2 r ⟨4 * (q.val + 1) + 2, by omega⟩)) (x0 (ix2 r 0)) (x0 (ix2 r 2))
  x1 := lowEdge width (x1 (ix2 r ⟨4 * (q.val + 1) + 1, by omega⟩)) (x1 (ix2 r ⟨4 * (q.val + 1) + 3, by omega⟩)) (x0 (ix2 r 1)) (x0 (ix2 r 3))
  y2 := highEdge height (x1 (ix2 r ⟨4 * (q.val + 1), by omega⟩)) (x1 (ix2 r ⟨4 * (q.val + 1) + 2, by omega⟩)) (x0 (ix2 r 0)) (x0 (ix2 r 2))
  x2 := highEdge width (x1 (ix2 r ⟨4 * (q.val + 1) + 1, by omega⟩)) (x1 (ix2 r ⟨4 * (q.val + 1) + 3, by omega⟩)) (x0 (ix2 r 1)) (x0 (ix2 r 3))

/-- Something clipped between zero and a real number is a real number. -/
theorem clip_real (M : ℝ) (hM : 0 ≤ M) (z : EReal) : ∃ r : ℝ, min (M : EReal) (max 0 z) = r := by
  have h0 : (0 : EReal) ≤ min (M : EReal) (max 0 z) := le_min (by exact_mod_cast hM) (le_max_left _ _)
  have h1 : min (M : EReal) (max 0 z) ≤ M := min_le_left _ _
  refine ⟨(min (M : EReal) (max 0 z)).toReal, (EReal.coe_toReal ?_ ?_).symm⟩
  · intro h; rw [h] at h1; exact absurd h1 (by simp)
  · intro h; rw [h] at h0; exact absurd h0 (by simp)

theorem box_finite (x0 : (⟨2, ![1000, 4]⟩ : Shape).Idx → EReal) (x1 : (⟨2, ![1000, 84]⟩ : Shape).Idx → EReal) (q : Fin 20) (r : Fin 1000) :
    (box x0 x1 q r).Finite := by
  unfold box lowEdge highEdge
  rw [height_eq, width_eq]
  obtain ⟨p1, h1⟩ := clip_real 600 (by norm_num) (center (x1 (ix2 r ⟨4 * (q.val + 1), by omega⟩)) (x0 (ix2 r 0)) (x0 (ix2 r 2))
    - half * extent (x1 (ix2 r ⟨4 * (q.val + 1) + 2, by omega⟩)) (x0 (ix2 r 0)) (x0 (ix2 r 2)))
  obtain ⟨p2, h2⟩ := clip_real 800 (by norm_num) (center (x1 (ix2 r ⟨4 * (q.val + 1) + 1, by omega⟩)) (x0 (ix2 r 1)) (x0 (ix2 r 3))
    - half * extent (x1 (ix2 r ⟨4 * (q.val + 1) + 3, by omega⟩)) (x0 (ix2 r 1)) (x0 (ix2 r 3)))
  obtain ⟨p3, h3⟩ := clip_real 600 (by norm_num) (center (x1 (ix2 r ⟨4 * (q.val + 1), by omega⟩)) (x0 (ix2 r 0)) (x0 (ix2 r 2))
    + half * extent (x1 (ix2 r ⟨4 * (q.val + 1) + 2, by omega⟩)) (x0 (ix2 r 0)) (x0 (ix2 r 2)))
  obtain ⟨p4, h4⟩ := clip_real 800 (by norm_num) (center (x1 (ix2 r ⟨4 * (q.val + 1) + 1, by omega⟩)) (x0 (ix2 r 1)) (x0 (ix2 r 3))
    + half * extent (x1 (ix2 r ⟨4 * (q.val + 1) + 3, by omega⟩)) (x0 (ix2 r 1)) (x0 (ix2 r 3)))
  exact ⟨p1, p2, p3, p4, by rw [h1, h2, h3, h4]⟩

/-! ## The two overlap tests -/

/-- The kernel's test: the intersection exceeds the sum of the scaled areas. -/
def Over (b c : Box) : Prop := ratio * b.area + ratio * c.area < b.inter c

/-- The reference's quotient: the intersection over the union. -/
def iou (b c : Box) : EReal := Ideal.div (b.inter c) (max (b.area + c.area - b.inter c) tiny)

/-- A box that is empty or not too small. -/
def Box.NoSliver (b : Box) : Prop := b.area = 0 ∨ tiny ≤ b.area

theorem coe_max (x y : ℝ) : max (x : EReal) (y : EReal) = ((max x y : ℝ) : EReal) :=
  (EReal.coe_strictMono.monotone.map_max).symm

theorem coe_min (x y : ℝ) : min (x : EReal) (y : EReal) = ((min x y : ℝ) : EReal) :=
  (EReal.coe_strictMono.monotone.map_min).symm

/-- The arithmetic of the two tests over the reals: `n` is the intersection, `p` and `q` the areas, `ε` the smallest
    divisor. -/
theorem over_iff_real (n p q ε : ℝ) (hε : 0 < ε) (hn : 0 ≤ n) (hp : n ≤ p) (hq : n ≤ q) (hp' : p = 0 ∨ ε ≤ p) :
    5033165 / 21810381 * p + 5033165 / 21810381 * q < n ↔ 5033165 / 16777216 < n / max (p + q - n) ε := by
  rcases hn.eq_or_lt with rfl | hpos
  · rw [zero_div]
    constructor
    · intro h; nlinarith
    · intro h; norm_num at h
  · have hpe : ε ≤ p := hp'.resolve_left (by intro h; rw [h] at hp; exact absurd hp (not_le.2 hpos))
    have hu : ε ≤ p + q - n := by linarith
    rw [max_eq_left hu, lt_div_iff₀ (by linarith)]
    constructor
    · intro h; nlinarith
    · intro h; nlinarith

theorem over_iff (b c : Box) (hb : b.Finite) (hc : c.Finite) (hs : b.NoSliver) : Over c b ↔ thresh < iou b c := by
  obtain ⟨b1, b2, b3, b4, rfl⟩ := hb
  obtain ⟨c1, c2, c3, c4, rfl⟩ := hc
  unfold Box.NoSliver at hs
  unfold Over iou
  rw [thresh_eq]
  simp only [Box.area, Box.inter, tiny_eq, coe_min, coe_max, ← EReal.coe_sub, ← EReal.coe_zero, ← EReal.coe_mul,
    ← EReal.coe_add, EReal.coe_eq_coe_iff, EReal.coe_le_coe_iff, EReal.coe_lt_coe_iff] at hs ⊢
  have hne : max (max (b3 - b1) 0 * max (b4 - b2) 0 + max (c3 - c1) 0 * max (c4 - c2) 0
      - max (min b3 c3 - max b1 c1) 0 * max (min b4 c4 - max b2 c2) 0) (11258999 / 2 ^ 50 : ℝ) ≠ 0 := by
    have : (0 : ℝ) < 11258999 / 2 ^ 50 := by positivity
    exact (this.trans_le (le_max_right _ _)).ne'
  have hdiv : ∀ x y : ℝ, y ≠ 0 → Ideal.div (x : EReal) (y : EReal) = ((x / y : ℝ) : EReal) := by
    intro x y hy
    unfold Ideal.div
    rw [if_neg (by exact_mod_cast hy), ← EReal.coe_inv, ← EReal.coe_mul, div_eq_mul_inv]
  rw [hdiv _ _ hne, EReal.coe_lt_coe_iff]
  rw [min_comm c3 b3, max_comm c1 b1, min_comm c4 b4, max_comm c2 b2,
    add_comm (5033165 / 21810381 * (max (c3 - c1) 0 * max (c4 - c2) 0))]
  refine over_iff_real _ _ _ _ (by positivity) (by positivity) ?_ ?_ hs
  · refine mul_le_mul (max_le_max ?_ le_rfl) (max_le_max ?_ le_rfl) (le_max_right _ _) (le_max_right _ _)
    · linarith [min_le_left b3 c3, le_max_left b1 c1]
    · linarith [min_le_left b4 c4, le_max_left b2 c2]
  · refine mul_le_mul (max_le_max ?_ le_rfl) (max_le_max ?_ le_rfl) (le_max_right _ _) (le_max_right _ _)
    · linarith [min_le_right b3 c3, le_max_right b1 c1]
    · linarith [min_le_right b4 c4, le_max_right b2 c2]

/-! ## Scores -/

/-- The largest logit of a proposal. -/
def top (x2 : (⟨2, ![1000, 21]⟩ : Shape).Idx → EReal) (r : Fin 1000) : EReal :=
  (Finset.univ : Finset (Fin 21)).fold max ⊥ fun k => x2 (ix2 r k)

/-- The probability of class `k` at a proposal. -/
def prob (x2 : (⟨2, ![1000, 21]⟩ : Shape).Idx → EReal) (r : Fin 1000) (k : Fin 21) : EReal :=
  Ideal.div (Ideal.exp (x2 (ix2 r k) - top x2 r)) (∑ l : Fin 21, Ideal.exp (x2 (ix2 r l) - top x2 r))

/-- A probability, where it exceeds the low threshold. -/
def cut (p : EReal) : EReal := if low < p then p else 0

/-- The score of proposal `r` for foreground class `q`. -/
def score (x2 : (⟨2, ![1000, 21]⟩ : Shape).Idx → EReal) (q : Fin 20) (r : Fin 1000) : EReal := cut (prob x2 r q.succ)

theorem cut_nonneg (p : EReal) : 0 ≤ cut p := by
  unfold cut
  split
  · next h =>
    refine le_trans ?_ h.le
    rw [low_eq]
    exact_mod_cast (by positivity : (0 : ℝ) ≤ 13421773 / 2 ^ 28)
  · exact le_rfl

/-! ## Suppression -/

/-- Box `j` comes before box `i`: a higher score, or an equal one and a smaller index. -/
def Before (s : Fin 1000 → EReal) (j i : Fin 1000) : Prop := s i < s j ∨ (s j = s i ∧ j < i)

open Classical in
/-- The score box `i` is left with. -/
def kept (b : Fin 1000 → Box) (s : Fin 1000 → EReal) (i : Fin 1000) : EReal :=
  if (¬ ∃ j, Over (b j) (b i) ∧ Before s j i) ∧ low < s i then s i else 0

end Cert.Nms

end
-- ==== Proof.Value.Rows.lean ====
module

public import proofs.«01_k».proof.Proof.Value.Tile
public import proofs.«01_k».proof.Proof.Value.Nms
public import Idealize.ShloMosaic.PureOps.IdealRules

@[expose] public section

set_option maxRecDepth 16384

noncomputable section

/-!
# The rows a trip decodes and what it stores, read at an index over the extended reals

Each row a trip computes is, at box `i`, the decoding of `Nms` applied to the entries the trip read; the table holds
the rows as columns; the stored boxes are the table's first four columns and the stored scores are the scores of the
boxes that no box suppresses.
-/

namespace Cert.KernelIdeal.Hand

open Cert.KernelIdeal.Gen
open Idealize.ShloMosaic Idealize.ShloMosaic.TcCoe Idealize.ShloMosaic.ValueIdx

theorem row_slice {n : ℕ} (v : (⟨2, ![n, 1024]⟩ : Shape).Idx → EReal) (k : ℕ) (hk : k < n)
    (h : (⟨2, ![n, 1024]⟩ : Shape).Slices ![k, 0] S1x1024) (i : Fin 1024) :
    extractStridedSlice S1x1024 ![k, 0] v h (ix2 0 i) = v (ix2 ⟨k, hk⟩ i) :=
  extractStridedSlice_apply _ _ h (ix2 0 i) (ix2 ⟨k, hk⟩ i)
    (fun a => match a with | ⟨0, _⟩ => rfl | ⟨1, _⟩ => (Nat.zero_add _).symm)

section rows

variable (v3 : FVec Ideal S8x1024 .f32) (ld : FVec Ideal S1x4x1024 .f32) (pr : FVec Ideal S1x1024 .f32) (i : Fin 1024)

theorem offsets_apply (k : Fin 4) : k0_pay17 (F := Ideal) ld (ix2 k i) = ld (ix3 0 k i) := by
  unfold k0_pay17
  refine shapeCast_apply ld shapeCasts_S1x4x1024_S4x1024 (ix2 k i) (ix3 0 k i) ?_
  rw [Shape.rowMajor_val_three, Shape.rowMajor_val_two]
  simp

theorem pay2_apply : k0_pay2 (F := Ideal) v3 (ix2 0 i) = v3 (ix2 0 i) :=
  row_slice v3 0 (by omega) slices_S8x1024_o0_0_S1x1024 i
theorem pay3_apply : k0_pay3 (F := Ideal) v3 (ix2 0 i) = v3 (ix2 1 i) :=
  row_slice v3 1 (by omega) slices_S8x1024_o1_0_S1x1024 i

theorem pay4_apply : k0_pay4 (F := Ideal) v3 (ix2 0 i) = v3 (ix2 2 i) - v3 (ix2 0 i) := by
  unfold k0_pay4
  refine (subf_apply _ _ _).trans ?_
  rw [row_slice v3 2 (by omega) _ i, pay2_apply]
  rfl

theorem pay5_apply : k0_pay5 (F := Ideal) v3 (ix2 0 i) = v3 (ix2 3 i) - v3 (ix2 1 i) := by
  unfold k0_pay5
  refine (subf_apply _ _ _).trans ?_
  rw [row_slice v3 3 (by omega) _ i, pay3_apply]
  rfl

theorem pay6_apply : k0_pay6 (F := Ideal) v3 (ix2 0 i) = v3 (ix2 0 i) + Nms.half * (v3 (ix2 2 i) - v3 (ix2 0 i)) := by
  unfold k0_pay6
  refine (addf_apply _ _ _).trans ?_
  rw [mulf_apply, pay2_apply, pay4_apply]
  rfl

theorem pay7_apply : k0_pay7 (F := Ideal) v3 (ix2 0 i) = v3 (ix2 1 i) + Nms.half * (v3 (ix2 3 i) - v3 (ix2 1 i)) := by
  unfold k0_pay7
  refine (addf_apply _ _ _).trans ?_
  rw [mulf_apply, pay3_apply, pay5_apply]
  rfl

theorem pay19_apply : k0_pay19 (F := Ideal) (k0_pay4 v3) (k0_pay6 v3) ld (ix2 0 i)
    = Nms.center (ld (ix3 0 0 i)) (v3 (ix2 0 i)) (v3 (ix2 2 i)) := by
  unfold k0_pay19
  refine (addf_apply _ _ _).trans ?_
  rw [mulf_apply, row_slice _ 0 (by omega) _ i, pay6_apply, pay4_apply]
  refine congrArg (fun z => z * _ + _) (offsets_apply ld i 0)

theorem pay20_apply : k0_pay20 (F := Ideal) (k0_pay5 v3) (k0_pay7 v3) ld (ix2 0 i)
    = Nms.center (ld (ix3 0 1 i)) (v3 (ix2 1 i)) (v3 (ix2 3 i)) := by
  unfold k0_pay20
  refine (addf_apply _ _ _).trans ?_
  rw [mulf_apply, row_slice _ 1 (by omega) _ i, pay7_apply, pay5_apply]
  refine congrArg (fun z => z * _ + _) (offsets_apply ld i 1)

theorem pay21_apply : k0_pay21 (F := Ideal) (k0_pay4 v3) ld (ix2 0 i)
    = Nms.extent (ld (ix3 0 2 i)) (v3 (ix2 0 i)) (v3 (ix2 2 i)) := by
  unfold k0_pay21
  refine (mulf_apply _ _ _).trans ?_
  rw [pay4_apply]
  refine congrArg (fun z => Ideal.exp z * _) ((row_slice _ 2 (by omega) _ i).trans (offsets_apply ld i 2))

theorem pay22_apply : k0_pay22 (F := Ideal) (k0_pay5 v3) ld (ix2 0 i)
    = Nms.extent (ld (ix3 0 3 i)) (v3 (ix2 1 i)) (v3 (ix2 3 i)) := by
  unfold k0_pay22
  refine (mulf_apply _ _ _).trans ?_
  rw [pay5_apply]
  refine congrArg (fun z => Ideal.exp z * _) ((row_slice _ 3 (by omega) _ i).trans (offsets_apply ld i 3))

theorem rowY1_apply : rowY1 (F := Ideal) v3 ld (ix2 0 i)
    = Nms.lowEdge Nms.height (ld (ix3 0 0 i)) (ld (ix3 0 2 i)) (v3 (ix2 0 i)) (v3 (ix2 2 i)) := by
  unfold rowY1 k0_pay23
  refine (minimumf_apply _ _ _).trans ?_
  rw [maximumf_apply, subf_apply, mulf_apply, pay19_apply, pay21_apply]
  exact congrArg (fun z => min _ (max z _)) Ideal.ofBits_zero_f32

theorem rowX1_apply : rowX1 (F := Ideal) v3 ld (ix2 0 i)
    = Nms.lowEdge Nms.width (ld (ix3 0 1 i)) (ld (ix3 0 3 i)) (v3 (ix2 1 i)) (v3 (ix2 3 i)) := by
  unfold rowX1 k0_pay24
  refine (minimumf_apply _ _ _).trans ?_
  rw [maximumf_apply, subf_apply, mulf_apply, pay20_apply, pay22_apply]
  exact congrArg (fun z => min _ (max z _)) Ideal.ofBits_zero_f32

theorem rowY2_apply : rowY2 (F := Ideal) v3 ld (ix2 0 i)
    = Nms.highEdge Nms.height (ld (ix3 0 0 i)) (ld (ix3 0 2 i)) (v3 (ix2 0 i)) (v3 (ix2 2 i)) := by
  unfold rowY2 k0_pay26 rowY2pre k0_pay25
  refine (minimumf_apply _ _ _).trans ?_
  rw [maximumf_apply, addf_apply, mulf_apply, pay19_apply, pay21_apply]
  exact congrArg (fun z => min _ (max z _)) Ideal.ofBits_zero_f32

theorem rowX2_apply : rowX2 (F := Ideal) v3 ld (ix2 0 i)
    = Nms.highEdge Nms.width (ld (ix3 0 1 i)) (ld (ix3 0 3 i)) (v3 (ix2 1 i)) (v3 (ix2 3 i)) := by
  unfold rowX2 k0_pay27
  refine (minimumf_apply _ _ _).trans ?_
  rw [maximumf_apply, addf_apply, mulf_apply, pay20_apply, pay22_apply]
  exact congrArg (fun z => min _ (max z _)) Ideal.ofBits_zero_f32

/-- The box a trip decodes at index `i`. -/
def tripBox : Nms.Box :=
  ⟨rowY1 (F := Ideal) v3 ld (ix2 0 i), rowX1 (F := Ideal) v3 ld (ix2 0 i), rowY2 (F := Ideal) v3 ld (ix2 0 i),
    rowX2 (F := Ideal) v3 ld (ix2 0 i)⟩

theorem rowA_apply : rowA (F := Ideal) v3 ld (ix2 0 i) = Nms.ratio * (tripBox v3 ld i).area := by
  unfold rowA k0_pay28
  refine (mulf_apply _ _ _).trans ?_
  refine congrArg₂ (· * ·) (IdealRules.named_const.ideal_named_scalar _ _ _ _ rfl) ?_
  refine (mulf_apply _ _ _).trans ?_
  refine congrArg₂ (fun p q => max _ p * max _ q) Ideal.ofBits_zero_f32 Ideal.ofBits_zero_f32

theorem cut_of_select (p : EReal) :
    Scalar.select (FloatOps.cmpf (F := Ideal) (φ := .f32) .ogt p Nms.low) p (Ideal.ofBits .f32 0x00000000#32) = Nms.cut p := by
  rw [Ideal.ofBits_zero_f32]
  unfold Nms.cut
  by_cases h : Nms.low < p
  · rw [if_pos h, Ideal.cmpf_def, (cmp_gt_eq_one _ _).2 h]; rfl
  · rw [if_neg h, Ideal.cmpf_def]
    unfold Ideal.cmp
    dsimp only
    rw [decide_eq_false h]; rfl

theorem rowS_apply : rowS (F := Ideal) pr (ix2 0 i) = Nms.cut (pr (ix2 0 i)) := cut_of_select _

end rows

section table

variable (v3 : FVec Ideal S8x1024 .f32) (ld : FVec Ideal S1x4x1024 .f32) (pr : FVec Ideal S1x1024 .f32)

/-- Eight rows stacked, read at row `k`. -/
theorem stacked_apply (r0 r1 r2 r3 r4 r5 r6 r7 r : FVec Ideal S1x1024 .f32) (k : ℕ) (hk : k < 8)
    (hxk : [(⟨S1x1024, r0⟩ : (s : Shape) × (s.Idx → EReal)), ⟨S1x1024, r1⟩, ⟨S1x1024, r2⟩, ⟨S1x1024, r3⟩, ⟨S1x1024, r4⟩,
      ⟨S1x1024, r5⟩, ⟨S1x1024, r6⟩, ⟨S1x1024, r7⟩][k] = ⟨S1x1024, r⟩)
    (hpre : ((([(⟨S1x1024, r0⟩ : (s : Shape) × (s.Idx → EReal)), ⟨S1x1024, r1⟩, ⟨S1x1024, r2⟩, ⟨S1x1024, r3⟩, ⟨S1x1024, r4⟩,
      ⟨S1x1024, r5⟩, ⟨S1x1024, r6⟩, ⟨S1x1024, r7⟩].take k).map (·.1)).map fun s : Shape =>
        if h : s.rank = S8x1024.rank then s.size ((0 : Fin S8x1024.rank).cast h.symm) else 0).sum = k)
    (hc : Shape.Concatenates [S1x1024, S1x1024, S1x1024, S1x1024, S1x1024, S1x1024, S1x1024, S1x1024] S8x1024 0) (j : Fin 1024) :
    transpose S1024x8 [1, 0] (concatenate S8x1024 0 [⟨S1x1024, r0⟩, ⟨S1x1024, r1⟩, ⟨S1x1024, r2⟩, ⟨S1x1024, r3⟩, ⟨S1x1024, r4⟩,
      ⟨S1x1024, r5⟩, ⟨S1x1024, r6⟩, ⟨S1x1024, r7⟩] hc) transposes_S8x1024_p1_0_S1024x8 (ix2 j ⟨k, hk⟩) = r (ix2 0 j) := by
  refine (transpose_apply [1, 0] _ transposes_S8x1024_p1_0_S1024x8 (ix2 j ⟨k, hk⟩) (ix2 ⟨k, hk⟩ j)
    (fun b => match b with | ⟨0, _⟩ => rfl | ⟨1, _⟩ => rfl)).trans ?_
  exact concatenate_apply_piece (t := S8x1024) 0 [(⟨S1x1024, r0⟩ : (s : Shape) × (s.Idx → EReal)), ⟨S1x1024, r1⟩, ⟨S1x1024, r2⟩,
    ⟨S1x1024, r3⟩, ⟨S1x1024, r4⟩, ⟨S1x1024, r5⟩, ⟨S1x1024, r6⟩, ⟨S1x1024, r7⟩] hc (ix2 ⟨k, hk⟩ j) k hk S1x1024 r hxk rfl k hpre
    (ix2 0 j) (fun d hd => match d with
      | ⟨0, _⟩ => absurd rfl hd
      | ⟨1, _⟩ => rfl) (by show k + 0 = k; omega)

variable (j : Fin 1024)

theorem table_0 : table (F := Ideal) v3 ld pr (ix2 j 0) = rowY1 v3 ld (ix2 0 j) := by
  unfold table k0_pay29
  exact stacked_apply _ _ _ _ _ _ _ _ _ 0 (by omega) rfl rfl _ j
theorem table_1 : table (F := Ideal) v3 ld pr (ix2 j 1) = rowX1 v3 ld (ix2 0 j) := by
  unfold table k0_pay29
  exact stacked_apply _ _ _ _ _ _ _ _ _ 1 (by omega) rfl rfl _ j
theorem table_2 : table (F := Ideal) v3 ld pr (ix2 j 2) = rowY2 v3 ld (ix2 0 j) := by
  unfold table k0_pay29
  exact stacked_apply _ _ _ _ _ _ _ _ _ 2 (by omega) rfl rfl _ j
theorem table_3 : table (F := Ideal) v3 ld pr (ix2 j 3) = rowX2 v3 ld (ix2 0 j) := by
  unfold table k0_pay29
  exact stacked_apply _ _ _ _ _ _ _ _ _ 3 (by omega) rfl rfl _ j
theorem table_4 : table (F := Ideal) v3 ld pr (ix2 j 4) = rowA v3 ld (ix2 0 j) := by
  unfold table k0_pay29
  exact stacked_apply _ _ _ _ _ _ _ _ _ 4 (by omega) rfl rfl _ j
theorem table_5 : table (F := Ideal) v3 ld pr (ix2 j 5) = rowS pr (ix2 0 j) := by
  unfold table k0_pay29
  exact stacked_apply _ _ _ _ _ _ _ _ _ 5 (by omega) rfl rfl _ j

/-- What suppresses a box, in terms of the decoded boxes and the scores. -/
theorem hit_iff (i : Fin 1024) :
    Hit (table v3 ld pr) (rowY1 v3 ld) (rowX1 v3 ld) (rowY2 v3 ld) (rowX2 v3 ld) (rowA v3 ld) (rowS (F := Ideal) pr) i ↔
      ∃ j, Nms.Over (tripBox v3 ld j) (tripBox v3 ld i)
        ∧ (rowS (F := Ideal) pr (ix2 0 i) < rowS (F := Ideal) pr (ix2 0 j) ∨ (rowS (F := Ideal) pr (ix2 0 j) = rowS (F := Ideal) pr (ix2 0 i) ∧ j.val < i.val)) := by
  unfold Hit
  refine exists_congr fun j => ?_
  unfold Overlaps Precedes
  rw [table_0, table_1, table_2, table_3, table_4, table_5, rowA_apply, rowA_apply]
  exact Iff.rfl

/-- The stored boxes are the first four columns of the table. -/
theorem tripBoxes_apply (r : Fin 1000) (k : Fin 4) :
    tripBoxes (F := Ideal) v3 ld pr (ix3 0 r k) = table v3 ld pr (ix2 (r.castLE (by omega)) (k.castLE (by omega))) := by
  unfold tripBoxes k0_pay9
  refine (shapeCast_apply _ shapeCasts_S1000x4_S1x1000x4 (ix3 0 r k) (ix2 r k) ?_).trans ?_
  · rw [Shape.rowMajor_val_three, Shape.rowMajor_val_two]; simp
  · exact extractStridedSlice_apply _ _ slices_S1024x8_o0_0_S1000x4 (ix2 r k) _
      (fun a => match a with | ⟨0, _⟩ => (Nat.zero_add _).symm | ⟨1, _⟩ => (Nat.zero_add _).symm)

open Classical in
/-- The stored scores: the score of a box that no box suppresses, where it exceeds the low threshold. -/
theorem tripScores_apply (r : Fin 1000) :
    tripScores (F := Ideal) v3 ld pr (ix3 0 0 r)
      = if (¬ Hit (table v3 ld pr) (rowY1 v3 ld) (rowX1 v3 ld) (rowY2 v3 ld) (rowX2 v3 ld) (rowA v3 ld) (rowS (F := Ideal) pr) (r.castLE (by omega)))
          ∧ Nms.low < rowS (F := Ideal) pr (ix2 0 (r.castLE (by omega)))
        then rowS (F := Ideal) pr (ix2 0 (r.castLE (by omega))) else 0 := by
  unfold tripScores k0_pay10
  refine (shapeCast_apply _ shapeCasts_S1x1000_S1x1x1000 (ix3 0 0 r) (ix2 0 r) ?_).trans ?_
  · rw [Shape.rowMajor_val_three, Shape.rowMajor_val_two]; simp
  refine (extractStridedSlice_apply _ _ slices_S1x1024_o0_0_S1x1000 (ix2 0 r) (ix2 0 (r.castLE (by omega)))
      (fun a => match a with | ⟨0, _⟩ => rfl | ⟨1, _⟩ => (Nat.zero_add _).symm)).trans ?_
  rw [select_apply]
  have hbit : ∀ c : BitVec 1, c = 1#1 ∨ c = 0#1 := by decide
  have hc : (andi (xori (suppressed (F := Ideal) (table v3 ld pr) (rowY1 v3 ld) (rowX1 v3 ld) (rowY2 v3 ld) (rowX2 v3 ld) (rowA v3 ld) (rowS (F := Ideal) pr))
      (constantI S1x1024 1 1#1)) (cmpf (F := Ideal) .ogt (rowS (F := Ideal) pr) (k0_pay350 (F := Ideal))) (ix2 0 (r.castLE (by omega))) = 1#1) ↔
      (¬ Hit (table v3 ld pr) (rowY1 v3 ld) (rowX1 v3 ld) (rowY2 v3 ld) (rowX2 v3 ld) (rowA v3 ld) (rowS (F := Ideal) pr) (r.castLE (by omega)))
          ∧ Nms.low < rowS (F := Ideal) pr (ix2 0 (r.castLE (by omega))) := by
    refine (and_eq_one _ _).trans (and_congr ?_ ?_)
    · exact (xor_one_eq_one _).trans (not_congr (suppressed_apply _ _ _ _ _ _ _ _))
    · exact cmp_gt_eq_one _ _
  rcases hbit (andi (xori (suppressed (F := Ideal) (table v3 ld pr) (rowY1 v3 ld) (rowX1 v3 ld) (rowY2 v3 ld) (rowX2 v3 ld) (rowA v3 ld) (rowS (F := Ideal) pr))
      (constantI S1x1024 1 1#1)) (cmpf (F := Ideal) .ogt (rowS (F := Ideal) pr) (k0_pay350 (F := Ideal))) (ix2 0 (r.castLE (by omega)))) with h | h
  · rw [h, if_pos (hc.1 h)]; rfl
  · rw [h, if_neg (fun h' => by rw [hc.2 h'] at h; exact absurd h (by decide))]
    exact Ideal.ofBits_zero_f32

end table

end Cert.KernelIdeal.Hand

end
-- ==== Proof.Value.Fills.lean ====
module

public import proofs.«01_k».proof.Proof.Ideal.Point
public import proofs.«01_k».proof.Proof.Value.Nms
public import Idealize.ShloMosaic.PureOps.IdealRules

@[expose] public section

set_option maxRecDepth 16384

noncomputable section

/-!
# What the scratch buffers hold, read at an index over the extended reals

At a real box the buffers hold the proposals and the offsets of the inputs, and the class probabilities of `Nms`: the
three padding classes have the logit `⊥`, whose exponential is zero. At a padding box every logit is `⊥`, every
exponential zero, and the quotient `0 / 0` is `⊥`.
-/

namespace Cert.KernelIdeal.Hand

open Cert.KernelIdeal.Gen
open Idealize.ShloMosaic Idealize.ShloMosaic.TcCoe Idealize.ShloMosaic.ValueIdx

/-- The offsets' buffer at a real box. -/
theorem filledOffsets_apply (x1 : Vec Ideal S1000x84 .f32) (q : Fin 21) (k : Fin 4) (r : Fin 1000) :
    filledOffsets (F := Ideal) x1 (ix3 q k (r.castLE (by omega))) = x1 (ix2 r ⟨4 * q.val + k.val, by omega⟩) := by
  have e : (ix3 q k (r.castLE (by omega)) : S21x4x1024.Idx)
      = (Rect.unit (s := S21x4x1024) ![0, 0, 0] S21x4x1000.size inb_S21x4x1024_S21x4x1000_0_0_0).emb (ix3 q k r) := by
    funext a
    apply Fin.ext
    rw [Rect.emb_apply]
    match a with
    | ⟨0, _⟩ => show q.val = 0 + 1 * q.val; omega
    | ⟨1, _⟩ => show k.val = 0 + 1 * k.val; omega
    | ⟨2, _⟩ => show r.val = 0 + 1 * r.val; omega
  unfold filledOffsets
  rw [e, View.canon_cons_emb]
  unfold k0_pay12
  rw [shapeCast_self]
  refine (shapeCast_apply _ shapeCasts_S84x1000_S21x4x1000 (ix3 q k r) (ix2 ⟨4 * q.val + k.val, by omega⟩ r) ?_).trans ?_
  · rw [Shape.rowMajor_val_three, Shape.rowMajor_val_two]
    show (4 * q.val + k.val) * 1000 + r.val = (q.val * 4 + k.val) * 1000 + r.val
    omega
  · exact transpose_apply [1, 0] x1 transposes_S1000x84_p1_0_S84x1000 _ _
      (fun b => match b with | ⟨0, _⟩ => rfl | ⟨1, _⟩ => rfl)

/-- The proposals' buffer at a real box. -/
theorem filledBoxes_apply (x0 : Vec Ideal S1000x4 .f32) (k : Fin 4) (r : Fin 1000) :
    filledBoxes (F := Ideal) x0 (ix2 (k.castLE (by omega)) (r.castLE (by omega))) = x0 (ix2 r k) := by
  have e : (ix2 (k.castLE (by omega)) (r.castLE (by omega)) : S8x1024.Idx)
      = (Rect.unit (s := S8x1024) ![0, 0] S4x1000.size inb_S8x1024_S4x1000_0_0).emb (ix2 k r) := by
    funext a
    apply Fin.ext
    rw [Rect.emb_apply]
    match a with
    | ⟨0, _⟩ => show k.val = 0 + 1 * k.val; omega
    | ⟨1, _⟩ => show r.val = 0 + 1 * r.val; omega
  unfold filledBoxes
  rw [e, View.canon_cons_emb]
  unfold k0_pay16
  rw [shapeCast_self]
  exact transpose_apply [1, 0] x0 transposes_S1000x4_p1_0_S4x1000 _ _
    (fun b => match b with | ⟨0, _⟩ => rfl | ⟨1, _⟩ => rfl)

/-- The same, at indices given by their numbers. -/
theorem filledBoxes_at (x0 : Vec Ideal S1000x4 .f32) (k' : Fin 8) (j : Fin 1024) (k : Fin 4) (r : Fin 1000) (hk : k'.val = k.val)
    (hj : j.val = r.val) : (filledBoxes (F := Ideal) x0 (ix2 k' j) : EReal) = x0 (ix2 r k) := by
  obtain rfl : k' = k.castLE (by decide : 4 ≤ 8) := Fin.ext hk
  obtain rfl : j = r.castLE (by decide : 1000 ≤ 1024) := Fin.ext hj
  exact filledBoxes_apply x0 k r

theorem classOffsets_apply (X : Vec Ideal S21x4x1024 .f32) (q : Fin 21) (k : Fin 4) (j : Fin 1024) :
    classOffsets (F := Ideal) X q (ix3 0 k j) = X (ix3 q k j) := rfl

/-- The offsets of a class at indices given by their numbers. -/
theorem filledOffsets_at (x1 : Vec Ideal S1000x84 .f32) (q : Fin 21) (k : Fin 4) (j : Fin 1024) (r : Fin 1000) (n : Fin 84)
    (hn : n.val = 4 * q.val + k.val) (hj : j.val = r.val) :
    (classOffsets (F := Ideal) (filledOffsets x1) q (ix3 0 k j) : EReal) = x1 (ix2 r n) := by
  obtain rfl : j = r.castLE (by decide : 1000 ≤ 1024) := Fin.ext hj
  obtain ⟨n, hlt⟩ := n
  obtain rfl : n = 4 * q.val + k.val := hn
  exact (classOffsets_apply (filledOffsets (F := Ideal) x1) q k _).trans (filledOffsets_apply x1 q k r)

/-- The padded logits at a real class and box. -/
theorem filledLogits_real (x2 : Vec Ideal S1000x21 .f32) (k : Fin 21) (r : Fin 1000) :
    filledLogits (F := Ideal) x2 (ix2 (k.castLE (by omega)) (r.castLE (by omega))) = x2 (ix2 r k) := by
  have e : (ix2 (k.castLE (by omega)) (r.castLE (by omega)) : S24x1024.Idx)
      = (Rect.unit (s := S24x1024) ![0, 0] S21x1000.size inb_S24x1024_S21x1000_0_0).emb (ix2 k r) := by
    funext a
    apply Fin.ext
    rw [Rect.emb_apply]
    match a with
    | ⟨0, _⟩ => show k.val = 0 + 1 * k.val; omega
    | ⟨1, _⟩ => show r.val = 0 + 1 * r.val; omega
  unfold filledLogits
  rw [e, View.canon_cons_emb]
  unfold k0_pay14
  rw [shapeCast_self]
  exact transpose_apply [1, 0] x2 transposes_S1000x21_p1_0_S21x1000 _ _
    (fun b => match b with | ⟨0, _⟩ => rfl | ⟨1, _⟩ => rfl)

/-- The padding value. -/
theorem pay13_apply (y : S24x1024.Idx) : k0_pay13 (F := Ideal) y = (⊥ : EReal) := by
  unfold k0_pay13
  rw [shapeCast_self]
  exact IdealRules.named_const.ideal_named_scalar _ _ _ _ rfl

/-- The rectangle of the real logits holds no padding class and no padding box. -/
theorem pad_not_mem (k : Fin 24) (j : Fin 1024) (h : 21 ≤ k.val ∨ 1000 ≤ j.val) :
    (ix2 k j : S24x1024.Idx) ∉ (Rect.unit (s := S24x1024) ![0, 0] S21x1000.size inb_S24x1024_S21x1000_0_0).set := by
  intro hm
  have hm := Rect.mem_set_unit.mp hm
  rcases h with h | h
  · have h0 : k.val < 0 + 21 := (hm 0).2
    omega
  · have h1 : j.val < 0 + 1000 := (hm 1).2
    omega

/-- The padded logits elsewhere. -/
theorem filledLogits_pad (x2 : Vec Ideal S1000x21 .f32) (k : Fin 24) (j : Fin 1024) (h : 21 ≤ k.val ∨ 1000 ≤ j.val) :
    filledLogits (F := Ideal) x2 (ix2 k j) = (⊥ : EReal) := by
  unfold filledLogits
  refine (View.canon_cons_of_not_mem (Val := Elt Ideal) (s := S24x1024) (e := .f32)
    ⟨Rect.unit ![0, 0] S21x1000.size inb_S24x1024_S21x1000_0_0, k0_pay14 x2⟩ _ (pad_not_mem k j h)).trans ?_
  have hz : (![0, 0] : Fin S24x1024.rank → ℕ) = fun _ => 0 := by funext a; fin_cases a <;> rfl
  rw [View.canon_cons_unit_zero hz]
  exact pay13_apply _

section softmax

variable (v : FVec Ideal S24x1024 .f32)

theorem max_class (y : Fin 1024) :
    multiReduction (F := Ideal) .maximumf [0] S1024 v 0xFF800000#32 reduces_S24x1024_S1024 (.inl rfl) rfl (ix1 y)
      = (Finset.univ : Finset (Fin 24)).fold max (Ideal.ofBits .f32 0xFF800000#32) fun x => v (ix2 x y) := by
  refine (Ideal.multiReduction_maximumf_single v _ reduces_S24x1024_S1024 (.inl rfl) rfl (ix1 y)).trans ?_
  refine congrArg (fun g => (Finset.univ : Finset (Fin 24)).fold max (Ideal.ofBits .f32 0xFF800000#32) g) (funext fun x => ?_)
  refine congrArg v (funext fun a => ?_)
  match a with
  | ⟨0, _⟩ => rfl
  | ⟨1, _⟩ => rfl

theorem sum_class (y : Fin 1024) :
    multiReduction (F := Ideal) .add [0] S1024 v 0x00000000#32 reduces_S24x1024_S1024 (.inl rfl) rfl (ix1 y)
      = ∑ x : Fin 24, v (ix2 x y) := by
  refine (Ideal.multiReduction_add_single v _ reduces_S24x1024_S1024 (.inl rfl) rfl (ix1 y)).trans ?_
  refine Finset.sum_congr rfl fun x _ => ?_
  refine congrArg v (funext fun a => ?_)
  match a with
  | ⟨0, _⟩ => rfl
  | ⟨1, _⟩ => rfl

theorem spread_apply (w : FVec Ideal S1024 .f32) (k : Fin 24) (y : Fin 1024) :
    broadcastTo S24x1024 (shapeCast S1x1024 w shapeCasts_S1024_S1x1024) broadcasts_S1x1024_S24x1024 (ix2 k y) = w (ix1 y) := by
  refine (broadcastTo_apply _ broadcasts_S1x1024_S24x1024 (ix2 k y) (ix2 0 y)
    (fun a => match a with | ⟨0, _⟩ => rfl | ⟨1, _⟩ => rfl)).trans ?_
  refine shapeCast_apply _ shapeCasts_S1024_S1x1024 (ix2 (0 : Fin 1) y) (ix1 y) ?_
  rw [Shape.rowMajor_val_one, Shape.rowMajor_val_two]; simp

theorem softmax_apply (k : Fin 24) (y : Fin 1024) :
    k0_pay1 (F := Ideal) v (ix2 k y)
      = Ideal.div (Ideal.exp (v (ix2 k y) - (Finset.univ : Finset (Fin 24)).fold max (Ideal.ofBits .f32 0xFF800000#32) fun x => v (ix2 x y)))
          (∑ l : Fin 24, Ideal.exp (v (ix2 l y) - (Finset.univ : Finset (Fin 24)).fold max (Ideal.ofBits .f32 0xFF800000#32) fun x => v (ix2 x y))) := by
  unfold k0_pay1
  rw [shapeCast_self]
  refine (divf_apply _ _ _).trans ?_
  rw [spread_apply, sum_class]
  refine congrArg₂ Ideal.div ?_ (Finset.sum_congr rfl fun l _ => ?_)
  · refine congrArg Ideal.exp ?_
    rw [subf_apply, spread_apply, max_class]
  · refine congrArg Ideal.exp ?_
    rw [subf_apply, spread_apply, max_class]

end softmax

theorem ofBits_bot : Ideal.ofBits .f32 0xFF800000#32 = (⊥ : EReal) := by simp [Ideal.ofBits, Ideal.ieee]

/-- A padding logit less anything is `⊥`, whose exponential is zero. -/
theorem exp_pad (z : EReal) : Ideal.exp (⊥ - z) = 0 := by
  have : (⊥ : EReal) - z = ⊥ := by rw [sub_eq_add_neg, EReal.bot_add]
  rw [this]; rfl

/-- The softmax of a column whose last three entries are `⊥` is the softmax of the other 21. -/
theorem softmax_padded (v : FVec Ideal S24x1024 .f32) (f : Fin 21 → EReal) (y : Fin 1024)
    (hr : ∀ k : Fin 21, v (ix2 (k.castLE (by omega)) y) = f k) (hp : ∀ l : Fin 24, 21 ≤ l.val → v (ix2 l y) = (⊥ : EReal)) (k : Fin 21) :
    k0_pay1 (F := Ideal) v (ix2 (k.castLE (by omega)) y)
      = Ideal.div (Ideal.exp (f k - (Finset.univ : Finset (Fin 21)).fold max ⊥ f))
          (∑ l : Fin 21, Ideal.exp (f l - (Finset.univ : Finset (Fin 21)).fold max ⊥ f)) := by
  rw [softmax_apply, ofBits_bot]
  have htop : ((Finset.univ : Finset (Fin 24)).fold max (⊥ : EReal) fun x => v (ix2 x y))
      = (Finset.univ : Finset (Fin 21)).fold max ⊥ f := by
    apply le_antisymm
    · refine (Finset.fold_max_le (s := Finset.univ) (f := fun x : Fin 24 => (v (ix2 x y) : EReal)) _).2 ⟨bot_le, fun l _ => ?_⟩
      by_cases hl : l.val < 21
      · have e := hr ⟨l.val, hl⟩
        exact (Finset.le_fold_max _).2 (.inr ⟨⟨l.val, hl⟩, Finset.mem_univ _, e.le⟩)
      · exact (hp l (by omega)).le.trans bot_le
    · refine (Finset.fold_max_le _).2 ⟨bot_le, fun l _ => ?_⟩
      exact (Finset.le_fold_max (s := Finset.univ) (f := fun x : Fin 24 => (v (ix2 x y) : EReal)) _).2
        (.inr ⟨l.castLE (by omega), Finset.mem_univ _, (hr l).ge⟩)
  rw [htop, hr k]
  refine congrArg (Ideal.div _) ?_
  generalize (Finset.univ : Finset (Fin 21)).fold max ⊥ f = T
  refine (Fin.sum_univ_add (a := 21) (b := 3) (fun l : Fin (21 + 3) => Ideal.exp ((v (ix2 l y) : EReal) - T))).trans ?_
  have h0 : (∑ l : Fin 3, Ideal.exp ((v (ix2 (Fin.natAdd 21 l) y) : EReal) - T)) = 0 :=
    Finset.sum_eq_zero fun l _ => by
      rw [hp (Fin.natAdd 21 l) (Nat.le_add_right _ _)]; exact exp_pad _
  rw [h0, add_zero]
  exact Finset.sum_congr rfl fun l _ => congrArg (fun z => Ideal.exp (z - T)) (hr l)

/-- The softmax of a column of `⊥` is `⊥`. -/
theorem softmax_bot (v : FVec Ideal S24x1024 .f32) (y : Fin 1024) (hb : ∀ l : Fin 24, v (ix2 l y) = (⊥ : EReal)) (k : Fin 24) :
    k0_pay1 (F := Ideal) v (ix2 k y) = (⊥ : EReal) := by
  rw [softmax_apply]
  generalize ((Finset.univ : Finset (Fin 24)).fold max (Ideal.ofBits .f32 0xFF800000#32) fun x => v (ix2 x y)) = T
  rw [hb k, exp_pad, Finset.sum_eq_zero fun l _ => by rw [hb l, exp_pad]]
  unfold Ideal.div
  rw [if_pos rfl, if_neg (lt_irrefl _)]

/-- The probabilities' buffer at a real class and box. -/
theorem filledProbs_real (x2 : Vec Ideal S1000x21 .f32) (k : Fin 21) (r : Fin 1000) :
    filledProbs (F := Ideal) x2 (ix2 (k.castLE (by omega)) (r.castLE (by omega))) = Nms.prob x2 r k :=
  softmax_padded (filledLogits (F := Ideal) x2) (fun k => x2 (ix2 r k)) (r.castLE (by omega)) (fun l => filledLogits_real x2 l r)
    (fun l hl => filledLogits_pad x2 l _ (.inl hl)) k

/-- The probabilities' buffer at a padding box. -/
theorem filledProbs_pad (x2 : Vec Ideal S1000x21 .f32) (k : Fin 24) (j : Fin 1024) (h : 1000 ≤ j.val) :
    filledProbs (F := Ideal) x2 (ix2 k j) = (⊥ : EReal) :=
  softmax_bot (filledLogits (F := Ideal) x2) j (fun l => filledLogits_pad x2 l j (.inr h)) k

end Cert.KernelIdeal.Hand

end
-- ==== Proof.Value.Class.lean ====
module

public import proofs.«01_k».proof.Proof.Value.Rows
public import proofs.«01_k».proof.Proof.Value.Fills

@[expose] public section

set_option maxRecDepth 16384

noncomputable section

/-!
# What a trip stores for its class, as functions of the inputs

Over the extended reals the trip of foreground class `q` stores the boxes of `Nms` and the scores `Nms` keeps. A
padding box has the score zero and comes after every real box, so it suppresses none of them.
-/

namespace Cert.KernelIdeal.Hand

open Cert.KernelIdeal.Gen
open Idealize.ShloMosaic Idealize.ShloMosaic.TcCoe Idealize.ShloMosaic.ValueIdx

section trip

variable (x0 : Vec Ideal S1000x4 .f32) (x1 : Vec Ideal S1000x84 .f32) (x2 : Vec Ideal S1000x21 .f32) (q : Fin 20)

/-- The offsets and the probabilities of foreground class `q`, as its trip reads them. -/
abbrev ofClass : FVec Ideal S1x4x1024 .f32 := classOffsets (F := Ideal) (filledOffsets x1) q.succ
abbrev prClass : FVec Ideal S1x1024 .f32 := classProbs (F := Ideal) (filledProbs x2) q.succ

/-- The decoded box at a real index. -/
theorem tripBox_real (r : Fin 1000) :
    tripBox (filledBoxes x0) (ofClass x1 q) (r.castLE (by omega)) = Nms.box x0 x1 q r := by
  have b0 : (filledBoxes (F := Ideal) x0 (ix2 0 (r.castLE (by omega))) : EReal) = x0 (ix2 r 0) := filledBoxes_at x0 _ _ 0 r rfl rfl
  have b1 : (filledBoxes (F := Ideal) x0 (ix2 1 (r.castLE (by omega))) : EReal) = x0 (ix2 r 1) := filledBoxes_at x0 _ _ 1 r rfl rfl
  have b2 : (filledBoxes (F := Ideal) x0 (ix2 2 (r.castLE (by omega))) : EReal) = x0 (ix2 r 2) := filledBoxes_at x0 _ _ 2 r rfl rfl
  have b3 : (filledBoxes (F := Ideal) x0 (ix2 3 (r.castLE (by omega))) : EReal) = x0 (ix2 r 3) := filledBoxes_at x0 _ _ 3 r rfl rfl
  have o0 : (ofClass x1 q (ix3 0 0 (r.castLE (by omega))) : EReal) = x1 (ix2 r ⟨4 * (q.val + 1), by omega⟩) := filledOffsets_at x1 _ _ _ r _ rfl rfl
  have o1 : (ofClass x1 q (ix3 0 1 (r.castLE (by omega))) : EReal) = x1 (ix2 r ⟨4 * (q.val + 1) + 1, by omega⟩) := filledOffsets_at x1 _ _ _ r _ rfl rfl
  have o2 : (ofClass x1 q (ix3 0 2 (r.castLE (by omega))) : EReal) = x1 (ix2 r ⟨4 * (q.val + 1) + 2, by omega⟩) := filledOffsets_at x1 _ _ _ r _ rfl rfl
  have o3 : (ofClass x1 q (ix3 0 3 (r.castLE (by omega))) : EReal) = x1 (ix2 r ⟨4 * (q.val + 1) + 3, by omega⟩) := filledOffsets_at x1 _ _ _ r _ rfl rfl
  unfold tripBox Nms.box
  rw [rowY1_apply, rowX1_apply, rowY2_apply, rowX2_apply, b0, b1, b2, b3, o0, o1, o2, o3]

/-- The score at a real index. -/
theorem rowS_real (r : Fin 1000) : rowS (F := Ideal) (prClass x2 q) (ix2 0 (r.castLE (by omega))) = Nms.score x2 q r :=
  (rowS_apply _ _).trans (congrArg Nms.cut (filledProbs_real x2 q.succ r))

/-- The score at a padding index. -/
theorem rowS_pad (j : Fin 1024) (h : 1000 ≤ j.val) : rowS (F := Ideal) (prClass x2 q) (ix2 0 j) = (0 : EReal) := by
  refine (rowS_apply _ _).trans ((congrArg Nms.cut (filledProbs_pad x2 (q.succ.castLE (by omega)) j h)).trans ?_)
  exact if_neg not_lt_bot

/-- What suppresses a real box is a real box. -/
theorem hit_real (r : Fin 1000) :
    Hit (table (filledBoxes x0) (ofClass x1 q) (prClass x2 q)) (rowY1 (filledBoxes x0) (ofClass x1 q)) (rowX1 (filledBoxes x0) (ofClass x1 q))
        (rowY2 (filledBoxes x0) (ofClass x1 q)) (rowX2 (filledBoxes x0) (ofClass x1 q)) (rowA (filledBoxes x0) (ofClass x1 q))
        (rowS (F := Ideal) (prClass x2 q)) (r.castLE (by omega)) ↔
      ∃ j : Fin 1000, Nms.Over (Nms.box x0 x1 q j) (Nms.box x0 x1 q r) ∧ Nms.Before (Nms.score x2 q) j r := by
  refine (hit_iff _ _ _ _).trans ?_
  rw [tripBox_real, rowS_real]
  constructor
  · rintro ⟨j, ho, hb⟩
    by_cases hj : j.val < 1000
    · obtain ⟨j', rfl⟩ : ∃ j' : Fin 1000, j = j'.castLE (by decide : 1000 ≤ 1024) := by exact ⟨⟨j.val, hj⟩, rfl⟩
      rw [tripBox_real] at ho
      rw [rowS_real] at hb
      exact ⟨j', ho, hb⟩
    · rw [rowS_pad x2 q j (by omega)] at hb
      exfalso
      rcases hb with hb | ⟨_, hb⟩
      · exact absurd hb (not_lt.2 (Nms.cut_nonneg _))
      · have : (r.castLE (by omega : 1000 ≤ 1024)).val = r.val := rfl
        omega
  · rintro ⟨j, ho, hb⟩
    refine ⟨j.castLE (by omega), ?_, ?_⟩
    · rw [tripBox_real]; exact ho
    · rw [rowS_real]; exact hb

/-- The scores a trip stores. -/
theorem tripScores_real (r : Fin 1000) :
    tripScores (F := Ideal) (filledBoxes x0) (ofClass x1 q) (prClass x2 q) (ix3 0 0 r)
      = Nms.kept (Nms.box x0 x1 q) (Nms.score x2 q) r := by
  rw [tripScores_apply, rowS_real]
  unfold Nms.kept
  have hc := and_congr (not_congr (hit_real x0 x1 x2 q r)) (Iff.refl (Nms.low < Nms.score x2 q r))
  by_cases h : (¬ ∃ j, Nms.Over (Nms.box x0 x1 q j) (Nms.box x0 x1 q r) ∧ Nms.Before (Nms.score x2 q) j r)
      ∧ Nms.low < Nms.score x2 q r
  · exact (if_pos (hc.2 h)).trans (if_pos h).symm
  · exact (if_neg (fun h' => h (hc.1 h'))).trans (if_neg h).symm

/-- The boxes a trip stores. -/
theorem tripBoxes_real (r : Fin 1000) (k : Fin 4) :
    tripBoxes (F := Ideal) (filledBoxes x0) (ofClass x1 q) (prClass x2 q) (ix3 0 r k) = (Nms.box x0 x1 q r).edge k := by
  rw [tripBoxes_apply, ← tripBox_real]
  match k with
  | ⟨0, _⟩ => exact table_0 _ _ _ _
  | ⟨1, _⟩ => exact table_1 _ _ _ _
  | ⟨2, _⟩ => exact table_2 _ _ _ _
  | ⟨3, _⟩ => exact table_3 _ _ _ _

/-- The foreground class of place `k` of a grid point. -/
def foreground (i : grid0.Coords) (k : Fin 5) : Fin 20 :=
  ⟨5 * (i 0).val + k.val, by
    have h : (i 0).val < 4 := (i 0).isLt
    omega⟩

theorem pointBoxes_apply (i : grid0.Coords) (y : S5x1000x4.Idx) :
    pointBoxes (F := Ideal) i (filledOffsets x1) (filledProbs x2) (filledBoxes x0) y
      = (Nms.box x0 x1 (foreground i (y 0)) (y 1)).edge (y 2) :=
  tripBoxes_real x0 x1 x2 (foreground i (y 0)) (y 1) (y 2)

theorem pointScores_apply (i : grid0.Coords) (y : S5x1x1000.Idx) :
    pointScores (F := Ideal) i (filledOffsets x1) (filledProbs x2) (filledBoxes x0) y
      = Nms.kept (Nms.box x0 x1 (foreground i (y 0))) (Nms.score x2 (foreground i (y 0))) (y 2) :=
  tripScores_real x0 x1 x2 (foreground i (y 0)) (y 2)

end trip

end Cert.KernelIdeal.Hand

end
-- ==== Proof.Value.Arrays.lean ====
module

public import proofs.«01_k».proof.Proof.Ideal.Launch
public import proofs.«01_k».proof.Proof.Value.Class
public import Idealize.ShloMosaic.Lib.Pipeline.FrameTail

@[expose] public section

set_option maxRecDepth 16384

noncomputable section

/-!
# The kernel's two results

The four grid points write the four blocks of five classes of each result, so after the launch the first result holds
the boxes of `Nms` and the second one the scores `Nms` keeps.
-/

namespace Cert.KernelIdeal.Hand

open Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable (m : (ℓ : Loc nD τ sig) → Buf (Elt Ideal) ℓ) (ρ : Dev nD → PrngReg)

/-- The three arguments on a device. -/
abbrev arg0 (c : Dev nD) : Vec Ideal S1000x4 .f32 := m ((c : Thread nD τ).loc main_arg0)
abbrev arg1 (c : Dev nD) : Vec Ideal S1000x84 .f32 := m ((c : Thread nD τ).loc main_arg1)
abbrev arg2 (c : Dev nD) : Vec Ideal S1000x21 .f32 := m ((c : Thread nD τ).loc main_arg2)

/-! ## Where a block lies in its array -/

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 3) = (grid0.coords t 0).val ∧ win0_3.index t (1 : Fin 3) = 0
    ∧ win0_3.index t (2 : Fin 3) = 0 := (by decide +kernel : ∀ t : Fin grid0.N, _)
theorem index4 : ∀ t : Fin cfg0.N, win0_4.index t (0 : Fin 3) = (grid0.coords t 0).val ∧ win0_4.index t (1 : Fin 3) = 0
    ∧ win0_4.index t (2 : Fin 3) = 0 := (by decide +kernel : ∀ t : Fin grid0.N, _)
/-- Every block row has its point. -/
theorem point_of : ∀ a : Fin 4, ∃ t : Fin cfg0.N, (grid0.coords t 0).val = a.val :=
  (by decide +kernel : ∀ a : Fin 4, ∃ t : Fin grid0.N, (grid0.coords t 0).val = a.val)

theorem place0 (t : Fin cfg0.N) (j : S1000x4.Idx) : ((cfg0.win 0).blk t).view.emb j = j := by
  obtain ⟨e0, e1⟩ := index0 t
  funext a; apply Fin.ext
  match a with
  | ⟨0, _⟩ => show win0_0.index t (0 : Fin 2) * 1000 + 1 * (j 0).val = (j 0).val; omega
  | ⟨1, _⟩ => show win0_0.index t (1 : Fin 2) * 4 + 1 * (j 1).val = (j 1).val; omega

theorem place1 (t : Fin cfg0.N) (j : S1000x84.Idx) : ((cfg0.win 1).blk t).view.emb j = j := by
  obtain ⟨e0, e1⟩ := index1 t
  funext a; apply Fin.ext
  match a with
  | ⟨0, _⟩ => show win0_1.index t (0 : Fin 2) * 1000 + 1 * (j 0).val = (j 0).val; omega
  | ⟨1, _⟩ => show win0_1.index t (1 : Fin 2) * 84 + 1 * (j 1).val = (j 1).val; omega

theorem place2 (t : Fin cfg0.N) (j : S1000x21.Idx) : ((cfg0.win 2).blk t).view.emb j = j := by
  obtain ⟨e0, e1⟩ := index2 t
  funext a; apply Fin.ext
  match a with
  | ⟨0, _⟩ => show win0_2.index t (0 : Fin 2) * 1000 + 1 * (j 0).val = (j 0).val; omega
  | ⟨1, _⟩ => show win0_2.index t (1 : Fin 2) * 21 + 1 * (j 1).val = (j 1).val; omega

theorem place3 (t : Fin cfg0.N) (j : S5x1000x4.Idx) :
    (((cfg0.win 3).blk t).view.emb j : S20x1000x4.Idx) = ix3 (foreground (grid0.coords t) (j 0)) (j 1) (j 2) := by
  obtain ⟨e0, e1, e2⟩ := index3 t
  funext a; apply Fin.ext
  match a with
  | ⟨0, _⟩ => show win0_3.index t (0 : Fin 3) * 5 + 1 * (j 0).val = 5 * (grid0.coords t 0).val + (j 0).val; omega
  | ⟨1, _⟩ => show win0_3.index t (1 : Fin 3) * 1000 + 1 * (j 1).val = (j 1).val; omega
  | ⟨2, _⟩ => show win0_3.index t (2 : Fin 3) * 4 + 1 * (j 2).val = (j 2).val; omega

theorem place4 (t : Fin cfg0.N) (j : S5x1x1000.Idx) :
    (((cfg0.win 4).blk t).view.emb j : S20x1x1000.Idx) = ix3 (foreground (grid0.coords t) (j 0)) 0 (j 2) := by
  obtain ⟨e0, e1, e2⟩ := index4 t
  have h1 : (j 1).val < 1 := (j 1).isLt
  funext a; apply Fin.ext
  match a with
  | ⟨0, _⟩ => show win0_4.index t (0 : Fin 3) * 5 + 1 * (j 0).val = 5 * (grid0.coords t 0).val + (j 0).val; omega
  | ⟨1, _⟩ => show win0_4.index t (1 : Fin 3) * 1 + 1 * (j 1).val = 0; omega
  | ⟨2, _⟩ => show win0_4.index t (2 : Fin 3) * 1000 + 1 * (j 2).val = (j 2).val; omega

/-! ## An input's block is the whole argument -/

theorem block0 (c : Dev nD) (t : Fin cfg0.N) : iblk m c 0 t = arg0 m c := by
  funext j; show V m c main_arg0 (((cfg0.win 0).blk t).view.emb j) = V m c main_arg0 j; rw [place0]
theorem block1 (c : Dev nD) (t : Fin cfg0.N) : iblk m c 1 t = arg1 m c := by
  funext j; show V m c main_arg1 (((cfg0.win 1).blk t).view.emb j) = V m c main_arg1 j; rw [place1]
theorem block2 (c : Dev nD) (t : Fin cfg0.N) : iblk m c 2 t = arg2 m c := by
  funext j; show V m c main_arg2 (((cfg0.win 2).blk t).view.emb j) = V m c main_arg2 j; rw [place2]

/-! ## The arrays after the launch -/

/-- All the boxes. -/
def allBoxes (c : Dev nD) : S20x1000x4.Idx → EReal := fun y => (Nms.box (arg0 m c) (arg1 m c) (y 0) (y 1)).edge (y 2)
/-- All the scores, as the launch lays them out. -/
def allScores (c : Dev nD) : S20x1x1000.Idx → EReal := fun y =>
  Nms.kept (Nms.box (arg0 m c) (arg1 m c) (y 0)) (Nms.score (arg2 m c) (y 0)) (y 2)

theorem boxesAfter_eq (c : Dev nD) (t : Fin cfg0.N) :
    boxesAfter m c t = pointBoxes (F := Ideal) (grid0.coords t) (filledOffsets (arg1 m c)) (filledProbs (arg2 m c)) (filledBoxes (arg0 m c)) := by
  unfold boxesAfter held6 held7 held8
  rw [block0, block1, block2]

theorem scoresAfter_eq (c : Dev nD) (t : Fin cfg0.N) :
    scoresAfter m c t = pointScores (F := Ideal) (grid0.coords t) (filledOffsets (arg1 m c)) (filledProbs (arg2 m c)) (filledBoxes (arg0 m c)) := by
  unfold scoresAfter held6 held7 held8
  rw [block0, block1, block2]

theorem flushed3_eq (c : Dev nD) (t : Fin cfg0.N) :
    (dats m 0 c).flushed 3 t = ((cfg0.win 3).blk t).view.read (Elt Ideal) (allBoxes m c) := by
  show (cfg0.win 3).cut (grid0.coords t) ((dats m 0 c).after 3 t) = _
  rw [after_3, boxesAfter_eq]
  funext j
  show pointBoxes (F := Ideal) (grid0.coords t) (filledOffsets (arg1 m c)) (filledProbs (arg2 m c)) (filledBoxes (arg0 m c)) j
    = allBoxes m c (((cfg0.win 3).blk t).view.emb j)
  rw [place3]
  exact pointBoxes_apply _ _ _ _ _

theorem flushed4_eq (c : Dev nD) (t : Fin cfg0.N) :
    (dats m 0 c).flushed 4 t = ((cfg0.win 4).blk t).view.read (Elt Ideal) (allScores m c) := by
  show (cfg0.win 4).cut (grid0.coords t) ((dats m 0 c).after 4 t) = _
  rw [after_4, scoresAfter_eq]
  funext j
  show pointScores (F := Ideal) (grid0.coords t) (filledOffsets (arg1 m c)) (filledProbs (arg2 m c)) (filledBoxes (arg0 m c)) j
    = allScores m c (((cfg0.win 4).blk t).view.emb j)
  rw [place4]
  exact pointScores_apply _ _ _ _ _

/-- Every index of the boxes' array lies in some point's block. -/
theorem cover3 (i : S20x1000x4.Idx) : ∃ t : Fin cfg0.N, (cfg0.win 3).flush t = true ∧ i ∈ ((cfg0.win 3).blk t).view.set := by
  have h0 : (i 0).val < 20 := (i 0).isLt
  obtain ⟨t, ht⟩ := point_of ⟨(i 0).val / 5, by omega⟩
  refine ⟨t, flush0_3 t, ?_⟩
  have h := ((cfg0.win 3).blk t).view.emb_mem_set (ix3 ⟨(i 0).val % 5, Nat.mod_lt _ (by omega)⟩ (i 1) (i 2) : S5x1000x4.Idx)
  have e : (((cfg0.win 3).blk t).view.emb (ix3 ⟨(i 0).val % 5, Nat.mod_lt _ (by omega)⟩ (i 1) (i 2) : S5x1000x4.Idx) : S20x1000x4.Idx) = i := by
    rw [place3]
    funext a; apply Fin.ext
    match a with
    | ⟨0, _⟩ => show 5 * (grid0.coords t 0).val + (i 0).val % 5 = (i 0).val; rw [ht]; show 5 * ((i 0).val / 5) + _ = _; omega
    | ⟨1, _⟩ => rfl
    | ⟨2, _⟩ => rfl
  rwa [e] at h

/-- Every index of the scores' array lies in some point's block. -/
theorem cover4 (i : S20x1x1000.Idx) : ∃ t : Fin cfg0.N, (cfg0.win 4).flush t = true ∧ i ∈ ((cfg0.win 4).blk t).view.set := by
  have h0 : (i 0).val < 20 := (i 0).isLt
  have h1 : (i 1).val < 1 := (i 1).isLt
  obtain ⟨t, ht⟩ := point_of ⟨(i 0).val / 5, by omega⟩
  refine ⟨t, flush0_4 t, ?_⟩
  have h := ((cfg0.win 4).blk t).view.emb_mem_set (ix3 ⟨(i 0).val % 5, Nat.mod_lt _ (by omega)⟩ (i 1) (i 2) : S5x1x1000.Idx)
  have e : (((cfg0.win 4).blk t).view.emb (ix3 ⟨(i 0).val % 5, Nat.mod_lt _ (by omega)⟩ (i 1) (i 2) : S5x1x1000.Idx) : S20x1x1000.Idx) = i := by
    rw [place4]
    funext a; apply Fin.ext
    match a with
    | ⟨0, _⟩ => show 5 * (grid0.coords t 0).val + (i 0).val % 5 = (i 0).val; rw [ht]; show 5 * ((i 0).val / 5) + _ = _; omega
    | ⟨1, _⟩ => show 0 = (i 1).val; omega
    | ⟨2, _⟩ => rfl
  rwa [e] at h

theorem final3 (c : Dev nD) : (dats m 0 c).arrAt 3 cfg0.N = allBoxes m c :=
  (dats m 0 c).arrAt_eq_of_cover 3 (allBoxes m c) (fun t _ => flushed3_eq m c t) cover3
theorem final4 (c : Dev nD) : (dats m 0 c).arrAt 4 cfg0.N = allScores m c :=
  (dats m 0 c).arrAt_eq_of_cover 4 (allScores m c) (fun t _ => flushed4_eq m c t) cover4

/-- The second result: the scores without the unit axis. -/
def scores (c : Dev nD) : S20x1000.Idx → EReal := fun y =>
  Nms.kept (Nms.box (arg0 m c) (arg1 m c) (y 0)) (Nms.score (arg2 m c) (y 0)) (y 1)

theorem tail_eq (c : Dev nD) : Pipeline.afterTail₀ cfgs (dats m) 0 (V0 m) [hostOps1] c main_v0_1 = scores m c := by
  unfold Pipeline.afterTail₀
  have e : (Pipeline.withArrays (cfgs 0).spec c (V0 m c) (fun w => (dats m 0 c).arrAt w (cfgs 0).N) (Proc.devRef .tc main_call0_v0_1))
      = allScores m c :=
    (Pipeline.withArrays_arr (cfgs 0).spec launch0.win.arr_inj c (V0 m c) (fun w => (dats m 0 c).arrAt w (cfgs 0).N) 4).trans (final4 m c)
  show StableHlo.after (hostOps1 (F := Ideal)) _ (Proc.devRef .tc main_v0_1) = _
  generalize Pipeline.withArrays (cfgs 0).spec c (V0 m c) (fun w => (dats m 0 c).arrAt w (cfgs 0).N) = W at e ⊢
  after_results
  funext y
  show shapeCast S20x1000 (W (Proc.devRef .tc main_call0_v0_1)) shapeCasts_S20x1x1000_S20x1000 y = _
  rw [e]
  refine shapeCast_apply (allScores m c) shapeCasts_S20x1x1000_S20x1000 y (ix3 (y 0) 0 (y 1)) ?_
  rw [Shape.rowMajor_val_three, Shape.rowMajor_val_two]
  show ((y 0).val * 1 + 0) * 1000 + (y 1).val = (y 0).val * 1000 + (y 1).val
  omega

/-- The kernel run: both results at their functions of the arguments, and the arguments unchanged. -/
theorem kernel_run : θ_run defs (onTc (τ := τ) (main (F := Ideal))) ⟨m, fun _ => 0, ρ⟩ (fun r => ∀ c : Dev nD,
      r.2.mem ((c.tc : Thread nD τ).loc main_v0_0) = allBoxes m c
      ∧ r.2.mem ((c.tc : Thread nD τ).loc main_v0_1) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1.1 c).1 3).trans (final3 m c),
    ((h.1.1 c).2 main_v0_1 (by decide)).trans (tail_eq m c), h.2.1 c⟩) (θ_run_and (launch_run m ρ) (frame m ρ))

end Cert.KernelIdeal.Hand

end
-- ==== Proof.Value.RefBoxes.lean ====
module

public import proofs.«01_k».proof.Proof.Gen.ReferenceIdeal.Read
public import proofs.«01_k».proof.Proof.Value.Nms

@[expose] public section

noncomputable section

/-!
# The reference's boxes

The reference decodes every box of every class at once, in arrays of twenty rows. Read at a class and a proposal,
each of its four edges is the edge of `Nms`.
-/

namespace Cert.ReferenceIdeal.Hand

open Cert.ReferenceIdeal.Gen Cert.ReferenceIdeal.Read
open Idealize.ShloMosaic Idealize.ShloMosaic.TcCoe Idealize.ShloMosaic.ValueIdx

variable (x0 : FVec Ideal S1000x4 .f32) (x1 : FVec Ideal S1000x84 .f32) (q : Fin 20) (r : Fin 1000)

/-- Two indices of a matrix are equal when their coordinates are. -/
theorem idx2_ext {m n : ℕ} (i j : (⟨2, ![m, n]⟩ : Shape).Idx) (h0 : (i 0).val = (j 0).val) (h1 : (i 1).val = (j 1).val) :
    i = j :=
  funext fun a => Fin.ext (match a with | ⟨0, _⟩ => h0 | ⟨1, _⟩ => h1)

/-! ## The offsets -/

theorem offset0 : val_main_v35 (F := Ideal) x1 (ix2 q r) = x1 (ix2 r ⟨4 * (q.val + 1), by omega⟩) := by
  rw [val_main_v35_apply, val_main_v34_apply, val_main_v33_apply, val_main_v12_apply, val_main_v11_apply]
  refine congrArg x1 (idx2_ext _ _ ?_ ?_)
  · simp [ix2]; omega
  · simp [ix2]; omega

theorem offset1 : val_main_v38 (F := Ideal) x1 (ix2 q r) = x1 (ix2 r ⟨4 * (q.val + 1) + 1, by omega⟩) := by
  rw [val_main_v38_apply, val_main_v37_apply, val_main_v36_apply, val_main_v12_apply, val_main_v11_apply]
  refine congrArg x1 (idx2_ext _ _ ?_ ?_)
  · simp [ix2]; omega
  · simp [ix2]; omega

theorem offset2 : val_main_v41 (F := Ideal) x1 (ix2 q r) = x1 (ix2 r ⟨4 * (q.val + 1) + 2, by omega⟩) := by
  rw [val_main_v41_apply, val_main_v40_apply, val_main_v39_apply, val_main_v12_apply, val_main_v11_apply]
  refine congrArg x1 (idx2_ext _ _ ?_ ?_)
  · simp [ix2]; omega
  · simp [ix2]; omega

theorem offset3 : val_main_v44 (F := Ideal) x1 (ix2 q r) = x1 (ix2 r ⟨4 * (q.val + 1) + 3, by omega⟩) := by
  rw [val_main_v44_apply, val_main_v43_apply, val_main_v42_apply, val_main_v12_apply, val_main_v11_apply]
  refine congrArg x1 (idx2_ext _ _ ?_ ?_)
  · simp [ix2]; omega
  · simp [ix2]; omega

/-! ## The proposals -/

theorem source_height (i : S1000.Idx) : val_main_v17 (F := Ideal) x0 i = (x0 (ix2 (i 0) 2) - x0 (ix2 (i 0) 0) : EReal) := by
  rw [val_main_v17_apply, val_main_v14_apply, val_main_v13_apply, val_main_v16_apply, val_main_v15_apply]
  refine congrArg₂ (fun a b : EReal => a - b) (congrArg x0 (idx2_ext _ _ ?_ ?_)) (congrArg x0 (idx2_ext _ _ ?_ ?_)) <;>
    simp [ix2]

theorem source_width (i : S1000.Idx) : val_main_v22 (F := Ideal) x0 i = (x0 (ix2 (i 0) 3) - x0 (ix2 (i 0) 1) : EReal) := by
  rw [val_main_v22_apply, val_main_v19_apply, val_main_v18_apply, val_main_v21_apply, val_main_v20_apply]
  refine congrArg₂ (fun a b : EReal => a - b) (congrArg x0 (idx2_ext _ _ ?_ ?_)) (congrArg x0 (idx2_ext _ _ ?_ ?_)) <;>
    simp [ix2]

theorem source_cy (i : S1000.Idx) : val_main_v27 (F := Ideal) x0 i
    = (x0 (ix2 (i 0) 0) + Nms.half * (x0 (ix2 (i 0) 2) - x0 (ix2 (i 0) 0)) : EReal) := by
  rw [val_main_v27_apply, val_main_v24_apply, val_main_v23_apply, val_main_v26_apply, source_height, val_main_v25_apply]
  refine congrArg (fun a : EReal => a + Nms.half * (x0 (ix2 (i 0) 2) - x0 (ix2 (i 0) 0))) (congrArg x0 (idx2_ext _ _ ?_ ?_)) <;>
    simp [ix2]

theorem source_cx (i : S1000.Idx) : val_main_v32 (F := Ideal) x0 i
    = (x0 (ix2 (i 0) 1) + Nms.half * (x0 (ix2 (i 0) 3) - x0 (ix2 (i 0) 1)) : EReal) := by
  rw [val_main_v32_apply, val_main_v29_apply, val_main_v28_apply, val_main_v31_apply, source_width, val_main_v30_apply]
  refine congrArg (fun a : EReal => a + Nms.half * (x0 (ix2 (i 0) 3) - x0 (ix2 (i 0) 1))) (congrArg x0 (idx2_ext _ _ ?_ ?_)) <;>
    simp [ix2]

/-! ## Centers and extents -/

theorem ref_cy : val_main_v50 (F := Ideal) x0 x1 (ix2 q r)
    = Nms.center (x1 (ix2 r ⟨4 * (q.val + 1), by omega⟩)) (x0 (ix2 r 0)) (x0 (ix2 r 2)) := by
  rw [val_main_v50_apply, val_main_v47_apply, offset0, val_main_v46_apply, val_main_v45_apply, source_height, val_main_v49_apply,
    val_main_v48_apply, source_cy]
  rfl

theorem ref_cx : val_main_v56 (F := Ideal) x0 x1 (ix2 q r)
    = Nms.center (x1 (ix2 r ⟨4 * (q.val + 1) + 1, by omega⟩)) (x0 (ix2 r 1)) (x0 (ix2 r 3)) := by
  rw [val_main_v56_apply, val_main_v53_apply, offset1, val_main_v52_apply, val_main_v51_apply, source_width, val_main_v55_apply,
    val_main_v54_apply, source_cx]
  rfl

theorem ref_h : val_main_v60 (F := Ideal) x0 x1 (ix2 q r)
    = Nms.extent (x1 (ix2 r ⟨4 * (q.val + 1) + 2, by omega⟩)) (x0 (ix2 r 0)) (x0 (ix2 r 2)) := by
  rw [val_main_v60_apply, val_main_v57_apply, offset2, val_main_v59_apply, val_main_v58_apply, source_height]
  rfl

theorem ref_w : val_main_v64 (F := Ideal) x0 x1 (ix2 q r)
    = Nms.extent (x1 (ix2 r ⟨4 * (q.val + 1) + 3, by omega⟩)) (x0 (ix2 r 1)) (x0 (ix2 r 3)) := by
  rw [val_main_v64_apply, val_main_v61_apply, offset3, val_main_v63_apply, val_main_v62_apply, source_width]
  rfl

/-! ## The edges -/

/-- Clipping with the literal zero the reference writes. -/
theorem clip_zero (M z : EReal) :
    FloatOps.minimumf (F := Ideal) (φ := .f32) M (FloatOps.maximumf (F := Ideal) (φ := .f32) (Ideal.ofBits .f32 0x00000000#32) z)
      = min M (max 0 z) := by
  rw [Ideal.ofBits_zero_f32]; rfl

theorem ref_y1 : val_main_v68 (F := Ideal) x0 x1 (ix2 q r) = (Nms.box x0 x1 q r).y1 := by
  rw [val_main_v68_apply, val_main_call0_v2_apply, val_main_v67_apply, ref_cy, val_main_v66_apply, ref_h, val_main_v65_apply,
    val_main_call0_v1_apply, val_main_call0_v4_apply]
  exact clip_zero _ _

theorem ref_x1 : val_main_v72 (F := Ideal) x0 x1 (ix2 q r) = (Nms.box x0 x1 q r).x1 := by
  rw [val_main_v72_apply, val_main_call1_v2_apply, val_main_v71_apply, ref_cx, val_main_v70_apply, ref_w, val_main_v69_apply,
    val_main_call1_v1_apply, val_main_call1_v4_apply]
  exact clip_zero _ _

theorem ref_y2 : val_main_v76 (F := Ideal) x0 x1 (ix2 q r) = (Nms.box x0 x1 q r).y2 := by
  rw [val_main_v76_apply, val_main_call2_v2_apply, val_main_v75_apply, ref_cy, val_main_v74_apply, ref_h, val_main_v73_apply,
    val_main_call2_v1_apply, val_main_call2_v4_apply]
  exact clip_zero _ _

theorem ref_x2 : val_main_v80 (F := Ideal) x0 x1 (ix2 q r) = (Nms.box x0 x1 q r).x2 := by
  rw [val_main_v80_apply, val_main_call3_v2_apply, val_main_v79_apply, ref_cx, val_main_v78_apply, ref_w, val_main_v77_apply,
    val_main_call3_v1_apply, val_main_call3_v4_apply]
  exact clip_zero _ _

end Cert.ReferenceIdeal.Hand

end
-- ==== Proof.Value.RefScores.lean ====
module

public import proofs.«01_k».proof.Proof.Value.RefBoxes
public import Idealize.ShloMosaic.PureOps.Reduce

@[expose] public section

noncomputable section

/-!
# The reference's two arrays before suppression

The boxes of every class, joined from their edges, and the class probabilities above the low threshold.
-/

namespace Cert.ReferenceIdeal.Hand

open Cert.ReferenceIdeal.Gen Cert.ReferenceIdeal.Read
open Idealize.ShloMosaic Idealize.ShloMosaic.TcCoe Idealize.ShloMosaic.ValueIdx

section boxes

variable (x0 : FVec Ideal S1000x4 .f32) (x1 : FVec Ideal S1000x84 .f32)

/-- Four matrices joined along a new last axis, read at an index, are the matrix that the last coordinate names. -/
theorem joined_apply (p0 p1 p2 p3 : S20x1000x1.Idx → EReal)
    (h : Shape.Concatenates [S20x1000x1, S20x1000x1, S20x1000x1, S20x1000x1] S20x1000x4 2) (q : Fin 20) (r : Fin 1000) (k : Fin 4) :
    concatenate S20x1000x4 2 [⟨S20x1000x1, p0⟩, ⟨S20x1000x1, p1⟩, ⟨S20x1000x1, p2⟩, ⟨S20x1000x1, p3⟩] h (ix3 q r k)
      = (![p0 (ix3 q r 0), p1 (ix3 q r 0), p2 (ix3 q r 0), p3 (ix3 q r 0)] : Fin 4 → EReal) k := by
  have hi : ∀ (k : Fin 4) (b : Fin 3), b ≠ 2 → ((ix3 q r (0 : Fin 1) : S20x1000x1.Idx) b).val = ((ix3 q r k : S20x1000x4.Idx) b).val := by
    intro k b hb
    match b, hb with
    | ⟨0, _⟩, _ => rfl
    | ⟨1, _⟩, _ => rfl
    | ⟨2, _⟩, hb => exact absurd rfl hb
  match k with
  | ⟨0, _⟩ => exact concatenate_apply_piece 2 [⟨S20x1000x1, p0⟩, ⟨S20x1000x1, p1⟩, ⟨S20x1000x1, p2⟩, ⟨S20x1000x1, p3⟩] h _ 0 (Nat.succ_pos 3) S20x1000x1 p0 rfl rfl 0 rfl (ix3 q r 0) (hi _) rfl
  | ⟨1, _⟩ => exact concatenate_apply_piece 2 [⟨S20x1000x1, p0⟩, ⟨S20x1000x1, p1⟩, ⟨S20x1000x1, p2⟩, ⟨S20x1000x1, p3⟩] h _ 1 (Nat.le.step (Nat.le.step (Nat.le_refl 2))) S20x1000x1 p1 rfl rfl 1 rfl (ix3 q r 0) (hi _) rfl
  | ⟨2, _⟩ => exact concatenate_apply_piece 2 [⟨S20x1000x1, p0⟩, ⟨S20x1000x1, p1⟩, ⟨S20x1000x1, p2⟩, ⟨S20x1000x1, p3⟩] h _ 2 (Nat.le.step (Nat.le_refl 3)) S20x1000x1 p2 rfl rfl 2 rfl (ix3 q r 0) (hi _) rfl
  | ⟨3, _⟩ => exact concatenate_apply_piece 2 [⟨S20x1000x1, p0⟩, ⟨S20x1000x1, p1⟩, ⟨S20x1000x1, p2⟩, ⟨S20x1000x1, p3⟩] h _ 3 (Nat.le_refl 4) S20x1000x1 p3 rfl rfl 3 rfl (ix3 q r 0) (hi _) rfl

theorem ref_boxes_apply (q : Fin 20) (r : Fin 1000) (k : Fin 4) :
    val_main_v85 (F := Ideal) x0 x1 (ix3 q r k) = (Nms.box x0 x1 q r).edge k := by
  have e1 : idx_main_v81 (ix3 q r 0) = ix2 q r := idx2_ext _ _ rfl rfl
  have e2 : idx_main_v82 (ix3 q r 0) = ix2 q r := idx2_ext _ _ rfl rfl
  have e3 : idx_main_v83 (ix3 q r 0) = ix2 q r := idx2_ext _ _ rfl rfl
  have e4 : idx_main_v84 (ix3 q r 0) = ix2 q r := idx2_ext _ _ rfl rfl
  unfold val_main_v85
  rw [joined_apply, val_main_v81_apply, val_main_v82_apply, val_main_v83_apply, val_main_v84_apply, e1, e2, e3, e4, ref_y1, ref_x1,
    ref_y2, ref_x2]
  rfl

end boxes

section scores

variable (x2 : FVec Ideal S1000x21 .f32)

theorem ofBits_bot : Ideal.ofBits .f32 0xFF800000#32 = ⊥ := by
  simp [Ideal.ofBits, Ideal.ieee]

theorem ref_top (i : S1000.Idx) : val_main_v2 (F := Ideal) x2 i = Nms.top x2 (i 0) := by
  have h0 : val_main_v0 (F := Ideal) x2 i = Nms.top x2 (i 0) := by
    unfold val_main_v0
    rw [Host.reduce_eq_fold_single FloatOps.maximumf x2 _ reducesTo_S1000x21_S1000_d1 (by decide) h_S_ i]
    unfold Nms.top
    have hinit : val_main_cst (F := Ideal) (Shape.Idx.first h_S_) = (⊥ : EReal) := ofBits_bot
    rw [hinit]
    refine congrArg (fun f => Finset.fold max (⊥ : EReal) f Finset.univ) (funext fun k => congrArg x2 ?_)
    exact funext fun a => Fin.ext (match a with | ⟨0, _⟩ => rfl | ⟨1, _⟩ => rfl)
  rw [val_main_v2_apply, h0, val_main_v1_apply]
  show max (Ideal.ofBits .f32 0xFF800000#32) _ = _
  rw [ofBits_bot]
  exact max_bot_left _

theorem ref_exp (r : Fin 1000) (k : Fin 21) :
    val_main_v6 (F := Ideal) x2 (ix2 r k) = Ideal.exp (x2 (ix2 r k) - Nms.top x2 r) := by
  rw [val_main_v6_apply, val_main_v5_apply, val_main_v4_apply, val_main_v3_apply, ref_top]
  rfl

theorem ref_prob (r : Fin 1000) (k : Fin 21) : val_main_v10 (F := Ideal) x2 (ix2 r k) = Nms.prob x2 r k := by
  rw [val_main_v10_apply, ref_exp, val_main_v9_apply, val_main_v8_apply, val_main_v7_apply]
  have hz : val_main_cst_1 (F := Ideal) (Shape.Idx.first h_S_) = (0 : EReal) := Ideal.ofBits_zero_f32
  rw [hz, zero_add]
  refine congrArg (Ideal.div _) (Finset.sum_congr rfl fun l _ => ?_)
  have e : idx_main_v7 (idx_main_v8 (idx_main_v9 (ix2 r k))) l = ix2 r l := idx2_ext _ _ rfl rfl
  rw [e, ref_exp]

theorem ref_class_prob (q : Fin 20) (r : Fin 1000) : val_main_v87 (F := Ideal) x2 (ix2 q r) = Nms.prob x2 r q.succ := by
  rw [val_main_v87_apply, val_main_v86_apply]
  have e : idx_main_v86 (idx_main_v87 (ix2 q r)) = ix2 r q.succ := idx2_ext _ _ rfl (Nat.add_comm 1 q.val)
  rw [e, ref_prob]

/-- A comparison's bit is set exactly where the comparison holds. -/
theorem ogt_one (a b : EReal) : Ideal.cmp .ogt a b = 1#1 ↔ b < a := by
  unfold Ideal.cmp
  by_cases h : b < a <;> simp [h]

theorem ole_one (a b : EReal) : Ideal.cmp .ole a b = 1#1 ↔ a ≤ b := by
  unfold Ideal.cmp
  by_cases h : a ≤ b <;> simp [h]

theorem ref_score (q : Fin 20) (r : Fin 1000) : val_main_v90 (F := Ideal) x2 (ix2 q r) = Nms.score x2 q r := by
  rw [val_main_v90_apply, val_main_v89_apply, ref_class_prob, val_main_v88_apply, val_main_call4_v1_apply]
  show (if Ideal.cmp .ogt (Nms.prob x2 r q.succ) Nms.low = 1#1 then Nms.prob x2 r q.succ else Ideal.ofBits .f32 0x00000000#32) = _
  rw [Ideal.ofBits_zero_f32]
  unfold Nms.score Nms.cut
  by_cases h : Nms.low < Nms.prob x2 r q.succ
  · rw [if_pos ((ogt_one _ _).2 h), if_pos h]
  · rw [if_neg (fun c => h ((ogt_one _ _).1 c)), if_neg h]

end scores

end Cert.ReferenceIdeal.Hand

end
-- ==== Proof.Value.Order.lean ====
module

public import proofs.«01_k».proof.Proof.Value.Nms
public import Idealize.ShloMosaic.Lib.SortFacts

@[expose] public section

noncomputable section

/-!
# The order of the scores

A stable sort by descending score puts the boxes in the order `Before`: equal scores keep the order of their
indices.
-/

namespace Cert.Nms

open Idealize.ShloMosaic

variable (s : Fin 1000 → EReal)

theorem Before.trans {i j k : Fin 1000} (h : Before s i j) (g : Before s j k) : Before s i k := by
  rcases h with h | ⟨h, h'⟩ <;> rcases g with g | ⟨g, g'⟩
  · exact Or.inl (g.trans h)
  · exact Or.inl (g ▸ h)
  · exact Or.inl (h ▸ g)
  · exact Or.inr ⟨h.trans g, h'.trans g'⟩

theorem Before.irrefl (i : Fin 1000) : ¬ Before s i i := by
  rintro (h | ⟨_, h⟩)
  · exact lt_irrefl _ h
  · exact lt_irrefl _ h

/-- Inserting a box of smaller index into boxes in order keeps them in order. -/
theorem insert_ordered (a : Fin 1000) (l : List (Fin 1000)) (hl : l.Pairwise (Before s)) (ha : ∀ b ∈ l, a < b) :
    (insertBefore (fun j k => decide (s k < s j)) a l).Pairwise (Before s) := by
  induction l with
  | nil => exact List.pairwise_singleton _ _
  | cons b l ih =>
    rw [List.pairwise_cons] at hl
    unfold insertBefore
    by_cases h : s a < s b
    · rw [if_pos (decide_eq_true h)]
      refine List.pairwise_cons.mpr ⟨fun c hc => ?_, ih hl.2 fun c hc => ha c (List.mem_cons_of_mem b hc)⟩
      rcases List.mem_cons.mp ((perm_insertBefore _ a l).mem_iff.mp hc) with rfl | hc'
      · exact Or.inl h
      · exact hl.1 c hc'
    · rw [if_neg (by simpa using h)]
      have hab : Before s a b := by
        rcases (not_lt.mp h).lt_or_eq with g | g
        · exact Or.inl g
        · exact Or.inr ⟨g.symm, ha b List.mem_cons_self⟩
      refine List.pairwise_cons.mpr ⟨fun c hc => ?_, List.pairwise_cons.mpr hl⟩
      rcases List.mem_cons.mp hc with rfl | hc'
      · exact hab
      · exact Before.trans s hab (hl.1 c hc')

theorem sort_ordered (l : List (Fin 1000)) (hl : l.Pairwise (· < ·)) :
    (stableSort (fun j k => decide (s k < s j)) l).Pairwise (Before s) := by
  induction l with
  | nil => exact List.Pairwise.nil
  | cons a l ih =>
    rw [List.pairwise_cons] at hl
    unfold stableSort
    exact insert_ordered s a _ (ih hl.2) fun b hb => hl.1 b ((perm_stableSort _ l).mem_iff.mp hb)

/-- What holds between any two places of the sorted list holds between two positions in order. -/
theorem sortedFrom_pairwise {n : ℕ} (R : Fin n → Fin n → Bool) (P : Fin n → Fin n → Prop)
    (hp : (sortPositions n R).Pairwise P) (a b : Fin n) (h : a < b) : P (sortedFrom R a) (sortedFrom R b) := by
  have hg := List.pairwise_iff_get.mp hp
  unfold sortedFrom
  exact hg _ _ (by simp only [Fin.lt_def, Fin.val_cast]; exact h)

/-- The box at each position of the order. -/
def order : Fin 1000 → Fin 1000 := sortedFrom fun j k => decide (s k < s j)

theorem order_before (a b : Fin 1000) (h : a < b) : Before s (order s a) (order s b) :=
  sortedFrom_pairwise _ _ (sort_ordered s _ (List.pairwise_lt_finRange 1000)) a b h

theorem order_before_iff (a b : Fin 1000) : Before s (order s a) (order s b) ↔ a < b := by
  refine ⟨fun h => ?_, order_before s a b⟩
  by_contra hab
  rcases (not_lt.mp hab).lt_or_eq with g | g
  · exact Before.irrefl s _ (h.trans s (order_before s b a g))
  · exact Before.irrefl s _ (g ▸ h)

theorem order_surjective : Function.Surjective (order s) := sortedFrom_surjective _

theorem order_injective : Function.Injective (order s) := sortedFrom_injective _

end Cert.Nms

end
-- ==== Proof.Value.RefOrder.lean ====
module

public import proofs.«01_k».proof.Proof.Value.RefScores
public import proofs.«01_k».proof.Proof.Value.Order
public import Idealize.ShloMosaic.Lib.Routing.OpsSet

@[expose] public section

noncomputable section

/-!
# The reference's order and what it reads in that order

The reference sorts the negated scores of a class, carrying the indices; so position `p` holds the index
`Nms.order` puts there. It then reads the scores and the four edges at those indices.
-/

namespace Cert.ReferenceIdeal.Hand

open Cert.ReferenceIdeal.Gen Cert.ReferenceIdeal.Read
open Idealize.ShloMosaic Idealize.ShloMosaic.TcCoe Idealize.ShloMosaic.ValueIdx

/-! ## The sort -/

/-- The comparator's replacement of a zero by zero, and of a value unequal to itself, changes nothing here. -/
theorem comparator_apply (l r : EReal × BitVec 32) :
    comparator_f32_i32_d1 (F := Ideal) l r = BitVec.ofBool (decide (l.1 < r.1)) := by
  have key : ∀ a : EReal, (if Ideal.cmp .une a a = 1#1 then Ideal.ofBits .f32 0x7FC00000#32
      else if Ideal.cmp .oeq a (Ideal.ofBits .f32 0x00000000#32) = 1#1 then Ideal.ofBits .f32 0x00000000#32 else a) = a := by
    intro a
    rw [if_neg (by simp [Ideal.cmp])]
    generalize Ideal.ofBits .f32 0x00000000#32 = z
    by_cases h : a = z
    · rw [if_pos (by simp [Ideal.cmp, h]), h]
    · rw [if_neg (by simp [Ideal.cmp, h])]
  show Ideal.cmp .olt (if Ideal.cmp .une l.1 l.1 = 1#1 then Ideal.ofBits .f32 0x7FC00000#32
      else if Ideal.cmp .oeq l.1 (Ideal.ofBits .f32 0x00000000#32) = 1#1 then Ideal.ofBits .f32 0x00000000#32 else l.1)
    (if Ideal.cmp .une r.1 r.1 = 1#1 then Ideal.ofBits .f32 0x7FC00000#32
      else if Ideal.cmp .oeq r.1 (Ideal.ofBits .f32 0x00000000#32) = 1#1 then Ideal.ofBits .f32 0x00000000#32 else r.1) = _
  rw [key, key]
  rfl

/-- A sort of two matrices along their rows, its second result read at an index. -/
theorem sort2_rows {α β : Type} (cmp : α × β → α × β → BitVec 1) (x : S20x1000.Idx → α) (y : S20x1000.Idx → β) (q : Fin 20) (p : Fin 1000) :
    (Host.sort2 S20x1000 1 cmp x y).2 (ix2 q p)
      = y (ix2 q (sortedFrom (fun k k' => cmp (x (ix2 q k), y (ix2 q k)) (x (ix2 q k'), y (ix2 q k')) == 1#1) p)) := by
  have hal : ∀ k : Fin 1000, (ix2 q p : S20x1000.Idx).along (1 : Fin 2) k = ix2 q k := fun k =>
    idx2_ext _ _ rfl rfl
  unfold Host.sort2
  rw [dif_pos (by decide : 1 < S20x1000.rank)]
  refine congrArg y ((hal _).trans ?_)
  refine congrArg (fun f => ix2 q (sortedFrom f p)) (funext fun k => funext fun k' => ?_)
  exact congrArg₂ (fun u v => cmp (x u, y u) (x v, y v) == 1#1) (hal k) (hal k')

section order

variable (x2 : FVec Ideal S1000x21 .f32) (q : Fin 20)

/-- The box of class `q` at position `p` of the order of the scores. -/
abbrev nth (p : Fin 1000) : Fin 1000 := Nms.order (Nms.score x2 q) p

theorem ref_order (p : Fin 1000) : val_main_v92 (F := Ideal) x2 (ix2 q p) = BitVec.ofNat 32 (nth x2 q p).val := by
  unfold val_main_v92
  rw [sort2_rows]
  have e : (fun k k' : Fin 1000 => comparator_f32_i32_d1 (F := Ideal)
      (val_main_v91 (F := Ideal) x2 (ix2 q k), val_main_call5_v0 (F := Ideal) (ix2 q k))
      (val_main_v91 (F := Ideal) x2 (ix2 q k'), val_main_call5_v0 (F := Ideal) (ix2 q k')) == 1#1)
      = fun j k => decide (Nms.score x2 q k < Nms.score x2 q j) := by
    funext k k'
    rw [comparator_apply, val_main_v91_apply, val_main_v91_apply, ref_score, ref_score]
    show (BitVec.ofBool (decide (-(Nms.score x2 q k) < -(Nms.score x2 q k'))) == 1#1) = _
    simp only [EReal.neg_lt_neg_iff]
    by_cases h : Nms.score x2 q k' < Nms.score x2 q k <;> simp [h]
  rw [e]
  rfl

end order

/-! ## The reads in order -/

/-- An index word, wrapped as the reference wraps it, is itself when it is not negative. -/
theorem wrap_small (a : BitVec 32) (n : ℕ) (hn : n < 1000) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; omega)

/-- The index words as every read takes them: wrapped, with a last axis of size one. -/
def wrapped (v : IVec S20x1000 32) : IVec S20x1000x1 32 :=
  shapeCast S20x1000x1
    (select (cmpi .slt v (broadcastInDim S20x1000 ![] bcast_S_S20x1000 (constantI S_ 32 0#32)))
      (addi v (broadcastInDim S20x1000 ![] bcast_S_S20x1000 (constantI S_ 32 1000#32))) v) shapeCasts_S20x1000_S20x1000x1

theorem wrapped_apply (v : IVec S20x1000 32) (q : Fin 20) (p j : Fin 1000) (h : v (ix2 q p) = BitVec.ofNat 32 j.val) :
    wrapped v (ix3 q p 0) = BitVec.ofNat 32 j.val := by
  unfold wrapped
  rw [shapeCast_apply _ shapeCasts_S20x1000_S20x1000x1 (ix3 q p 0) (ix2 q p) (by
    rw [Shape.rowMajor_val_two, Shape.rowMajor_val_three]
    show q.val * 1000 + p.val = (q.val * 1000 + p.val) * 1 + 0
    omega)]
  show Scalar.select (IntOp.cmpi .slt (v (ix2 q p)) _) _ (v (ix2 q p)) = _
  rw [h]
  exact wrap_small _ _ j.isLt

/-- The read along rows: result `(q, p)` is row `q` at the index word. -/
theorem take_apply {α : Type} (x : S20x1000.Idx → α) (idx : IVec S20x1000x1 32) (q : Fin 20) (p j : Fin 1000)
    (h : idx (ix3 q p 0) = BitVec.ofNat 32 j.val) :
    Host.gather gather_S20x1000_S20x1000x1_S20x1000_n_1_0_0_1_2_11 x idx (ix2 q p) = x (ix2 q j) := by
  unfold Host.gather
  refine congrArg x (idx2_ext _ _ ?_ ?_)
  · show GatherDims.start _ (ix2 q p) idx 0 + GatherDims.batchCoord _ (ix2 q p) 0 + GatherDims.offCoord _ (ix2 q p) 0 = q.val
    rw [GatherDims.start_batching _ _ _ _ (List.mem_singleton.2 rfl),
      GatherDims.offCoord_eq_zero _ _ _ (fun hk => ((GatherDims.mem_sKept _ _).1 hk).2 (List.mem_singleton.2 rfl))]
    show 0 + _ + 0 = q.val
    rw [Nat.zero_add, Nat.add_zero]
    unfold GatherDims.batchCoord
    have hm : (0 : Fin S20x1000.rank) ∈ gather_S20x1000_S20x1000x1_S20x1000_n_1_0_0_1_2_11.operandBatchingDims := List.mem_singleton.2 rfl
    exact (dif_pos hm).trans rfl
  · show GatherDims.start _ (ix2 q p) idx 1 + GatherDims.batchCoord _ (ix2 q p) 1 + GatherDims.offCoord _ (ix2 q p) 1 = j.val
    rw [GatherDims.batchCoord_eq_zero _ _ _ (fun hk => absurd (List.mem_singleton.1 hk) (by decide)),
      GatherDims.offCoord_eq_zero _ _ _ (fun hk => ((GatherDims.mem_sKept _ _).1 hk).1 (List.mem_singleton.2 rfl))]
    unfold GatherDims.start
    have hm : (1 : Fin S20x1000.rank) ∈ gather_S20x1000_S20x1000x1_S20x1000_n_1_0_0_1_2_11.startIndexMap := List.mem_singleton.2 rfl
    rw [dif_pos hm]
    have hsi : GatherDims.siIdx gather_S20x1000_S20x1000x1_S20x1000_n_1_0_0_1_2_11 (ix2 q p)
        ⟨List.idxOf 1 [1], List.idxOf_lt_length_iff.2 (List.mem_singleton.2 rfl)⟩ = ix3 q p 0 :=
      funext fun a => Fin.ext (match a with | ⟨0, _⟩ => rfl | ⟨1, _⟩ => rfl | ⟨2, _⟩ => rfl)
    have hv : (BitVec.ofNat 32 j.val).toInt.toNat = j.val := by
      rw [StableHlo.Predicate.toInt_ofNat_small _ (by have := j.isLt; omega)]
      rfl
    show min (idx (GatherDims.siIdx gather_S20x1000_S20x1000x1_S20x1000_n_1_0_0_1_2_11 (ix2 q p)
      ⟨List.idxOf 1 [1], List.idxOf_lt_length_iff.2 (List.mem_singleton.2 rfl)⟩)).toInt.toNat (1000 - 1) + 0 + 0 = j.val
    rw [hsi, h, hv]
    have := j.isLt
    omega

section reads

variable (x0 : FVec Ideal S1000x4 .f32) (x1 : FVec Ideal S1000x84 .f32) (x2 : FVec Ideal S1000x21 .f32) (q : Fin 20) (p : Fin 1000)

theorem ref_index : wrapped (val_main_v92 (F := Ideal) x2) (ix3 q p 0) = BitVec.ofNat 32 (nth x2 q p).val :=
  wrapped_apply _ q p _ (ref_order x2 q p)

theorem sorted_score : val_main_v93 (F := Ideal) x2 (ix2 q p) = Nms.score x2 q (nth x2 q p) :=
  (take_apply _ _ q p _ (ref_index x2 q p)).trans (ref_score x2 q _)

theorem sorted_y1 : val_main_v94 (F := Ideal) x0 x1 x2 (ix2 q p) = (Nms.box x0 x1 q (nth x2 q p)).y1 :=
  (take_apply _ _ q p _ (ref_index x2 q p)).trans (ref_y1 x0 x1 q _)

theorem sorted_x1 : val_main_v95 (F := Ideal) x0 x1 x2 (ix2 q p) = (Nms.box x0 x1 q (nth x2 q p)).x1 :=
  (take_apply _ _ q p _ (ref_index x2 q p)).trans (ref_x1 x0 x1 q _)

theorem sorted_y2 : val_main_v96 (F := Ideal) x0 x1 x2 (ix2 q p) = (Nms.box x0 x1 q (nth x2 q p)).y2 :=
  (take_apply _ _ q p _ (ref_index x2 q p)).trans (ref_y2 x0 x1 q _)

theorem sorted_x2 : val_main_v97 (F := Ideal) x0 x1 x2 (ix2 q p) = (Nms.box x0 x1 q (nth x2 q p)).x2 :=
  (take_apply _ _ q p _ (ref_index x2 q p)).trans (ref_x2 x0 x1 q _)

end reads

end Cert.ReferenceIdeal.Hand

end
-- ==== Proof.Value.RefNms.lean ====
module

public import proofs.«01_k».proof.Proof.Value.RefOrder

@[expose] public section

noncomputable section

/-!
# The reference's suppression

Over the boxes in order, the reference forms the overlap of every two, keeps those with an earlier box, and takes
the largest. A box whose largest overlap is above the threshold loses its score; the scores left are written back to
the boxes' own places.
-/

namespace Cert.ReferenceIdeal.Hand

open Cert.ReferenceIdeal.Gen Cert.ReferenceIdeal.Read
open Idealize.ShloMosaic Idealize.ShloMosaic.TcCoe Idealize.ShloMosaic.ValueIdx

section overlap

variable (x0 : FVec Ideal S1000x4 .f32) (x1 : FVec Ideal S1000x84 .f32) (x2 : FVec Ideal S1000x21 .f32) (q : Fin 20)

/-- The box of class `q` at position `p` of the order. -/
abbrev nthBox (p : Fin 1000) : Nms.Box := Nms.box x0 x1 q (nth x2 q p)

variable (a b : Fin 1000)

/-! ## The four edges, spread over the pairs -/

theorem left_y1 : val_main_v107 (F := Ideal) x0 x1 x2 (ix3 q a b) = (nthBox x0 x1 x2 q a).y1 := by
  have e : idx_main_v105 (idx_main_v107 (ix3 q a b)) = ix2 q a := idx2_ext _ _ rfl rfl
  rw [val_main_v107_apply, val_main_v105_apply, e, sorted_y1]

theorem right_y1 : val_main_v108 (F := Ideal) x0 x1 x2 (ix3 q a b) = (nthBox x0 x1 x2 q b).y1 := by
  have e : idx_main_v106 (idx_main_v108 (ix3 q a b)) = ix2 q b := idx2_ext _ _ rfl rfl
  rw [val_main_v108_apply, val_main_v106_apply, e, sorted_y1]

theorem left_x1 : val_main_v112 (F := Ideal) x0 x1 x2 (ix3 q a b) = (nthBox x0 x1 x2 q a).x1 := by
  have e : idx_main_v110 (idx_main_v112 (ix3 q a b)) = ix2 q a := idx2_ext _ _ rfl rfl
  rw [val_main_v112_apply, val_main_v110_apply, e, sorted_x1]

theorem right_x1 : val_main_v113 (F := Ideal) x0 x1 x2 (ix3 q a b) = (nthBox x0 x1 x2 q b).x1 := by
  have e : idx_main_v111 (idx_main_v113 (ix3 q a b)) = ix2 q b := idx2_ext _ _ rfl rfl
  rw [val_main_v113_apply, val_main_v111_apply, e, sorted_x1]

theorem left_y2 : val_main_v117 (F := Ideal) x0 x1 x2 (ix3 q a b) = (nthBox x0 x1 x2 q a).y2 := by
  have e : idx_main_v115 (idx_main_v117 (ix3 q a b)) = ix2 q a := idx2_ext _ _ rfl rfl
  rw [val_main_v117_apply, val_main_v115_apply, e, sorted_y2]

theorem right_y2 : val_main_v118 (F := Ideal) x0 x1 x2 (ix3 q a b) = (nthBox x0 x1 x2 q b).y2 := by
  have e : idx_main_v116 (idx_main_v118 (ix3 q a b)) = ix2 q b := idx2_ext _ _ rfl rfl
  rw [val_main_v118_apply, val_main_v116_apply, e, sorted_y2]

theorem left_x2 : val_main_v122 (F := Ideal) x0 x1 x2 (ix3 q a b) = (nthBox x0 x1 x2 q a).x2 := by
  have e : idx_main_v120 (idx_main_v122 (ix3 q a b)) = ix2 q a := idx2_ext _ _ rfl rfl
  rw [val_main_v122_apply, val_main_v120_apply, e, sorted_x2]

theorem right_x2 : val_main_v123 (F := Ideal) x0 x1 x2 (ix3 q a b) = (nthBox x0 x1 x2 q b).x2 := by
  have e : idx_main_v121 (idx_main_v123 (ix3 q a b)) = ix2 q b := idx2_ext _ _ rfl rfl
  rw [val_main_v123_apply, val_main_v121_apply, e, sorted_x2]

/-! ## The overlap -/

/-- A difference clipped below at the literal zero the reference writes. -/
theorem side_zero (u v : EReal) :
    FloatOps.maximumf (F := Ideal) (φ := .f32) (FloatOps.subf (F := Ideal) (φ := .f32) u v) (Ideal.ofBits .f32 0x00000000#32)
      = max (u - v) 0 := by
  rw [Ideal.ofBits_zero_f32]; rfl

theorem sorted_area : val_main_v104 (F := Ideal) x0 x1 x2 (ix2 q a) = (nthBox x0 x1 x2 q a).area := by
  rw [val_main_v104_apply, val_main_v100_apply, val_main_v98_apply, val_main_v99_apply, val_main_v103_apply, val_main_v101_apply,
    val_main_v102_apply, sorted_y1, sorted_x1, sorted_y2, sorted_x2]
  exact congrArg₂ (fun u v : EReal => u * v) (side_zero _ _) (side_zero _ _)

theorem left_area : val_main_v134 (F := Ideal) x0 x1 x2 (ix3 q a b) = (nthBox x0 x1 x2 q a).area := by
  have e : idx_main_v132 (idx_main_v134 (ix3 q a b)) = ix2 q a := idx2_ext _ _ rfl rfl
  rw [val_main_v134_apply, val_main_v132_apply, e, sorted_area]

theorem right_area : val_main_v135 (F := Ideal) x0 x1 x2 (ix3 q a b) = (nthBox x0 x1 x2 q b).area := by
  have e : idx_main_v133 (idx_main_v135 (ix3 q a b)) = ix2 q b := idx2_ext _ _ rfl rfl
  rw [val_main_v135_apply, val_main_v133_apply, e, sorted_area]

theorem ref_inter : val_main_v131 (F := Ideal) x0 x1 x2 (ix3 q a b) = (nthBox x0 x1 x2 q a).inter (nthBox x0 x1 x2 q b) := by
  rw [val_main_v131_apply, val_main_v127_apply, val_main_v125_apply, val_main_v119_apply, val_main_v109_apply, val_main_v126_apply,
    val_main_v130_apply, val_main_v128_apply, val_main_v124_apply, val_main_v114_apply, val_main_v129_apply,
    left_y1, right_y1, left_x1, right_x1, left_y2, right_y2, left_x2, right_x2]
  exact congrArg₂ (fun u v : EReal => u * v) (side_zero _ _) (side_zero _ _)

theorem ref_iou : val_main_v140 (F := Ideal) x0 x1 x2 (ix3 q a b) = Nms.iou (nthBox x0 x1 x2 q a) (nthBox x0 x1 x2 q b) := by
  rw [val_main_v140_apply, val_main_v139_apply, val_main_v137_apply, val_main_v136_apply, left_area, right_area, ref_inter,
    val_main_v138_apply]
  rfl

/-! ## The earlier boxes -/

theorem earlier_bit : val_main_v142 (F := Ideal) (ix2 a b) = if b < a then 1#1 else 0#1 := by
  have ha := a.isLt
  have hb := b.isLt
  rw [val_main_v142_apply, val_main_call11_v4_apply, val_main_call11_v2_apply, val_main_call11_v1_apply, val_main_v141_apply,
    val_main_call11_v5_apply]
  show Scalar.select (IntOp.cmpi .sge (BitVec.ofNat 32 a.val + 4294967295#32) (BitVec.ofNat 32 b.val)) 1#1 0#1 = _
  have h : (BitVec.ofNat 32 a.val + 4294967295#32).toInt = (a.val : ℤ) - 1 := by
    rw [BitVec.toInt_add, StableHlo.Predicate.toInt_ofNat_small _ (by omega)]
    show ((a.val : ℤ) + -1).bmod (2 ^ 32) = _
    rw [Int.bmod_def]
    omega
  have hb' : (BitVec.ofNat 32 b.val).toInt = (b.val : ℤ) := StableHlo.Predicate.toInt_ofNat_small _ (by omega)
  show (if BitVec.ofBool (decide ((BitVec.ofNat 32 b.val).toInt ≤ (BitVec.ofNat 32 a.val + 4294967295#32).toInt)) = 1#1 then 1#1 else 0#1) = _
  rw [h, hb']
  by_cases hlt : b < a
  · rw [if_pos hlt, if_pos (by rw [decide_eq_true (by have : b.val < a.val := hlt; omega)]; rfl)]
  · rw [if_neg hlt, if_neg (by rw [decide_eq_false (by have : ¬ b.val < a.val := hlt; omega)]; decide)]

theorem ref_masked : val_main_v143 (F := Ideal) x0 x1 x2 (ix3 q a b)
    = if b < a then Nms.iou (nthBox x0 x1 x2 q a) (nthBox x0 x1 x2 q b) else 0 := by
  have e : idx_main_call12_v1 (ix3 q a b) = ix2 a b := idx2_ext _ _ rfl rfl
  rw [val_main_v143_apply, val_main_call12_v1_apply, e, earlier_bit, ref_iou, val_main_call12_v2_apply]
  by_cases h : b < a
  · rw [if_pos h, if_pos h]; rfl
  · rw [if_neg h, if_neg h]; exact Ideal.ofBits_zero_f32

/-- The largest entry of a row of a stack of matrices. -/
theorem row_max (x : S20x1000x1000.Idx → EReal) (init : S_.Idx → EReal) :
    Host.reduce (FloatOps.maximumf (F := Ideal) (φ := .f32)) x init reducesTo_S20x1000x1000_S20x1000_d2 h_S_ (ix2 q a)
      = (Finset.univ : Finset (Fin 1000)).fold max (init (Shape.Idx.first h_S_)) fun b => x (ix3 q a b) := by
  rw [Host.reduce_eq_fold_single _ _ _ reducesTo_S20x1000x1000_S20x1000_d2 (by decide) h_S_ (ix2 q a)]
  have e : ∀ (h : S20x1000x1000.Reduces [2] S20x1000) (b : Fin 1000), h.lift (ix2 q a) b = ix3 q a b := fun h b =>
    funext fun c => Fin.ext (match c with | ⟨0, _⟩ => rfl | ⟨1, _⟩ => rfl | ⟨2, _⟩ => rfl)
  exact congrArg (fun f => Finset.fold max (init (Shape.Idx.first h_S_)) f Finset.univ) (funext fun b => congrArg x (e _ b))

/-- The largest overlap with an earlier box is at most the threshold exactly when each is. -/
theorem ref_largest_le : val_main_v144 (F := Ideal) x0 x1 x2 (ix2 q a) ≤ Nms.thresh
    ↔ ∀ b, b < a → Nms.iou (nthBox x0 x1 x2 q a) (nthBox x0 x1 x2 q b) ≤ Nms.thresh := by
  have hred : val_main_v144 (F := Ideal) x0 x1 x2 (ix2 q a) = (Finset.univ : Finset (Fin 1000)).fold max (⊥ : EReal)
      fun b => if b < a then Nms.iou (nthBox x0 x1 x2 q a) (nthBox x0 x1 x2 q b) else 0 := by
    unfold val_main_v144
    rw [row_max]
    have hinit : val_main_cst_24 (F := Ideal) (Shape.Idx.first h_S_) = (⊥ : EReal) := ofBits_bot
    rw [hinit]
    exact congrArg (fun f => Finset.fold max (⊥ : EReal) f Finset.univ) (funext fun b => ref_masked x0 x1 x2 q a b)
  rw [hred, Finset.fold_max_le]
  constructor
  · intro h b hb
    have := h.2 b (Finset.mem_univ b)
    rwa [if_pos hb] at this
  · intro h
    refine ⟨bot_le, fun b _ => ?_⟩
    by_cases hb : b < a
    · rw [if_pos hb]; exact h b hb
    · rw [if_neg hb, Nms.thresh_eq]
      exact EReal.coe_nonneg.2 (by positivity)

end overlap

end Cert.ReferenceIdeal.Hand

end
-- ==== Proof.Value.RefKept.lean ====
module

public import proofs.«01_k».proof.Proof.Value.RefNms

@[expose] public section

noncomputable section

/-!
# The reference's scores after suppression

The scores left in order are written back through the order itself. The order is a permutation, so each box gets its
own score back, and that is the score `Nms.kept` gives it.
-/

namespace Cert.ReferenceIdeal.Hand

open Cert.ReferenceIdeal.Gen Cert.ReferenceIdeal.Read
open Idealize.ShloMosaic Idealize.ShloMosaic.TcCoe Idealize.ShloMosaic.ValueIdx

variable (x0 : FVec Ideal S1000x4 .f32) (x1 : FVec Ideal S1000x84 .f32) (x2 : FVec Ideal S1000x21 .f32) (q : Fin 20)

theorem and_one (a b : BitVec 1) : a &&& b = 1#1 ↔ a = 1#1 ∧ b = 1#1 := by
  revert a b; decide

/-- The score at position `a` of the order, after suppression. -/
theorem ref_sorted_kept (a : Fin 1000) (hs : ∀ r, (Nms.box x0 x1 q r).NoSliver) :
    val_main_v150 (F := Ideal) x0 x1 x2 (ix2 q a) = Nms.kept (Nms.box x0 x1 q) (Nms.score x2 q) (nth x2 q a) := by
  have hbit : val_main_v149 (F := Ideal) x0 x1 x2 (ix2 q a) = 1#1
      ↔ (¬ ∃ j, Nms.Over (Nms.box x0 x1 q j) (nthBox x0 x1 x2 q a) ∧ Nms.Before (Nms.score x2 q) j (nth x2 q a))
        ∧ Nms.low < Nms.score x2 q (nth x2 q a) := by
    rw [val_main_v149_apply, val_main_v146_apply, val_main_v148_apply, sorted_score, val_main_v145_apply, val_main_v147_apply]
    refine (and_one _ _).trans (and_congr ((ole_one _ _).trans ((ref_largest_le x0 x1 x2 q a).trans ?_)) (ogt_one _ _))
    constructor
    · rintro h ⟨j, hj, hb⟩
      obtain ⟨b, rfl⟩ := Nms.order_surjective (Nms.score x2 q) j
      refine absurd (h b ((Nms.order_before_iff _ _ _).1 hb)) (not_le.2 ?_)
      exact (Nms.over_iff _ _ (Nms.box_finite x0 x1 q _) (Nms.box_finite x0 x1 q _) (hs _)).1 hj
    · intro h b hb
      by_contra hlt
      refine h ⟨nth x2 q b, ?_, Nms.order_before _ _ _ hb⟩
      exact (Nms.over_iff _ _ (Nms.box_finite x0 x1 q _) (Nms.box_finite x0 x1 q _) (hs _)).2 (not_le.1 hlt)
  rw [val_main_v150_apply, sorted_score, val_main_call13_v1_apply]
  unfold Nms.kept
  by_cases h : (¬ ∃ j, Nms.Over (Nms.box x0 x1 q j) (nthBox x0 x1 x2 q a) ∧ Nms.Before (Nms.score x2 q) j (nth x2 q a))
      ∧ Nms.low < Nms.score x2 q (nth x2 q a)
  · exact (if_pos (hbit.2 h)).trans (if_pos h).symm
  · exact (if_neg fun c => h (hbit.1 c)).trans (Ideal.ofBits_zero_f32.trans (if_neg h).symm)

/-! ## Writing back -/

theorem pair_index (a : Fin 1000) (k : Fin 2) (b : Fin 3) (hb : b ≠ 2) :
    ((ix3 q a (0 : Fin 1) : S20x1000x1.Idx) b).val = ((ix3 q a k : S20x1000x2.Idx) b).val :=
  match b, hb with
  | ⟨0, _⟩, _ => rfl
  | ⟨1, _⟩, _ => rfl
  | ⟨2, _⟩, hb => absurd rfl hb

section pair

variable (p0 p1 : S20x1000x1.Idx → BitVec 32) (h : Shape.Concatenates [S20x1000x1, S20x1000x1] S20x1000x2 2) (a : Fin 1000)

/-- Of two arrays with a last axis of size one, joined along it, the first is at `0`. -/
theorem pair_left : concatenate S20x1000x2 2 [⟨S20x1000x1, p0⟩, ⟨S20x1000x1, p1⟩] h (ix3 q a 0) = p0 (ix3 q a 0) :=
  concatenate_apply_piece 2 [⟨S20x1000x1, p0⟩, ⟨S20x1000x1, p1⟩] h _ 0 (Nat.succ_pos 1) S20x1000x1 p0 rfl rfl 0 rfl
    (ix3 q a 0) (pair_index q a 0) rfl

/-- And the second at `1`. -/
theorem pair_right : concatenate S20x1000x2 2 [⟨S20x1000x1, p0⟩, ⟨S20x1000x1, p1⟩] h (ix3 q a 1) = p1 (ix3 q a 0) :=
  concatenate_apply_piece 2 [⟨S20x1000x1, p0⟩, ⟨S20x1000x1, p1⟩] h _ 1 (Nat.le_refl 2) S20x1000x1 p1 rfl rfl 1 rfl
    (ix3 q a 0) (pair_index q a 1) rfl

end pair

theorem ref_target_class (a : Fin 1000) : val_main_v167 (F := Ideal) x2 (ix3 q a 0) = BitVec.ofNat 32 q.val := by
  unfold val_main_v167
  rw [pair_left]
  have e : val_main_v152 (F := Ideal) (idx_main_v164 (idx_main_v165 (ix3 q a 0))) = BitVec.ofNat 32 q.val :=
    val_main_v152_apply _
  rw [val_main_v165_apply, val_main_v164_apply, val_main_v158_apply, val_main_v155_apply, val_main_v154_apply, e]
  exact wrap_small _ q.val (by have := q.isLt; omega)

theorem ref_target_box (a : Fin 1000) : val_main_v167 (F := Ideal) x2 (ix3 q a 1) = BitVec.ofNat 32 (nth x2 q a).val := by
  unfold val_main_v167
  rw [pair_right]
  have e : idx_main_v166 (ix3 q a 0) = ix2 q a := idx2_ext _ _ rfl rfl
  rw [val_main_v166_apply, e, val_main_v163_apply, val_main_v160_apply, val_main_v159_apply, ref_order]
  exact wrap_small _ _ (nth x2 q a).isLt

/-- Where the score at position `a` of class `q` is written. -/
theorem ref_lands (a : Fin 1000) (p : Fin 20) (i : Fin 1000) :
    scatter_S20x1000_S20x1000x2_S20x1000_n_01_01_2.resultIdx? (ix2 q a) (val_main_v167 (F := Ideal) x2) = some (ix2 p i)
      ↔ q = p ∧ nth x2 q a = i := by
  refine (Routing.scatter_lands2 scatter_S20x1000_S20x1000x2_S20x1000_n_01_01_2 rfl rfl rfl _ q a p i).trans ?_
  rw [ref_target_class, ref_target_box, StableHlo.Predicate.toInt_ofNat_small _ (by have := q.isLt; omega),
    StableHlo.Predicate.toInt_ofNat_small _ (by have := (nth x2 q a).isLt; omega), Fin.ext_iff, Fin.ext_iff]
  omega

theorem ref_kept (i : Fin 1000) (hs : ∀ p r, (Nms.box x0 x1 p r).NoSliver) :
    val_main_v168 (F := Ideal) x0 x1 x2 (ix2 q i) = Nms.kept (Nms.box x0 x1 q) (Nms.score x2 q) i := by
  obtain ⟨a, ha⟩ := Nms.order_surjective (Nms.score x2 q) i
  unfold val_main_v168
  refine Routing.scatter_set_hit _ _ _ _ _ _ (fun k hk => ?_) (ix2 q a) ((ref_lands x2 q a q i).2 ⟨rfl, ha⟩)
  have e : k = ix2 (k 0) (k 1) := idx2_ext _ _ rfl rfl
  rw [e] at hk ⊢
  obtain ⟨h0, h1⟩ := (ref_lands x2 (k 0) (k 1) q i).1 hk
  refine (ref_sorted_kept x0 x1 x2 (k 0) (k 1) (hs _)).trans ?_
  rw [h1]
  exact congrArg (fun p : Fin 20 => Nms.kept (Nms.box x0 x1 p) (Nms.score x2 p) i) h0

end Cert.ReferenceIdeal.Hand

end
-- ==== Proof.Value.RefRun.lean ====
module

public import proofs.«01_k».proof.Proof.Gen.ReferenceIdeal.Run
public import proofs.«01_k».proof.Proof.Value.RefKept
public import Idealize.ShloMosaic.Lib.Claim

@[expose] public section

noncomputable section

/-!
# The reference's two results

Its first result holds the boxes of `Nms`; its second one the scores `Nms` keeps, when no box is a sliver.
-/

namespace Cert.ReferenceIdeal.Hand

open Cert.ReferenceIdeal.Gen Cert.ReferenceIdeal.Read
open Idealize.ShloMosaic Idealize.ShloMosaic.TcCoe Idealize.ShloMosaic.ValueIdx
open Idealize.ShloMosaic.StableHlo (launchContents launchContents_devRef)
open Idealize.SL.Sem

section values

variable (x0 : FVec Ideal S1000x4 .f32) (x1 : FVec Ideal S1000x84 .f32) (x2 : FVec Ideal S1000x21 .f32)

theorem ref_boxes : val_main_v85 (F := Ideal) x0 x1 = fun y => (Nms.box x0 x1 (y 0) (y 1)).edge (y 2) := by
  funext y
  have e : y = ix3 (y 0) (y 1) (y 2) :=
    funext fun a => match a with | ⟨0, _⟩ => rfl | ⟨1, _⟩ => rfl | ⟨2, _⟩ => rfl
  exact (congrArg (val_main_v85 (F := Ideal) x0 x1) e).trans (ref_boxes_apply x0 x1 (y 0) (y 1) (y 2))

theorem ref_scores (hs : ∀ p r, (Nms.box x0 x1 p r).NoSliver) :
    val_main_v168 (F := Ideal) x0 x1 x2 = fun y => Nms.kept (Nms.box x0 x1 (y 0)) (Nms.score x2 (y 0)) (y 1) := by
  funext y
  have e : y = ix2 (y 0) (y 1) := idx2_ext _ _ rfl rfl
  exact (congrArg (val_main_v168 (F := Ideal) x0 x1 x2) e).trans (ref_kept x0 x1 x2 (y 0) (y 1) hs)

end values

/-- The reference run from argument arrays `x0 c`, `x1 c`, `x2 c` on each device `c`. -/
theorem ref_run (m : (ℓ : Loc nD τ sig) → Buf (Elt Ideal) ℓ) (ρ : Dev nD → PrngReg)
    (x0 : Dev nD → FVec Ideal S1000x4 .f32) (x1 : Dev nD → FVec Ideal S1000x84 .f32) (x2 : Dev nD → FVec Ideal S1000x21 .f32)
    (h0 : ∀ c : Dev nD, m ((c.tc : Thread nD τ).loc main_arg0) = x0 c)
    (h1 : ∀ c : Dev nD, m ((c.tc : Thread nD τ).loc main_arg1) = x1 c)
    (h2 : ∀ c : Dev nD, m ((c.tc : Thread nD τ).loc main_arg2) = x2 c)
    (hs : ∀ c p r, (Nms.box (x0 c) (x1 c) p r).NoSliver) :
    θ_run defs (onTc (τ := τ) (main (F := Ideal))) ⟨m, fun _ => 0, ρ⟩ (fun r => ∀ c : Dev nD,
      r.2.mem ((c.tc : Thread nD τ).loc main_v85) = (fun y => (Nms.box (x0 c) (x1 c) (y 0) (y 1)).edge (y 2) : S20x1000x4.Idx → EReal)
      ∧ r.2.mem ((c.tc : Thread nD τ).loc main_v168)
        = (fun y => Nms.kept (Nms.box (x0 c) (x1 c) (y 0)) (Nms.score (x2 c) (y 0)) (y 1) : S20x1000.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.ReferenceIdeal.Value.run m ρ)
  obtain ⟨a, b, k⟩ := h c
  have e0 : launchContents m c (Proc.devRef .tc main_arg0) = x0 c := (launchContents_devRef m c main_arg0).trans (h0 c)
  have e1 : launchContents m c (Proc.devRef .tc main_arg1) = x1 c := (launchContents_devRef m c main_arg1).trans (h1 c)
  have e2 : launchContents m c (Proc.devRef .tc main_arg2) = x2 c := (launchContents_devRef m c main_arg2).trans (h2 c)
  rw [val_main_v85_eq, e0, e1, ref_boxes] at a
  rw [val_main_v168_eq, e0, e1, e2, ref_scores _ _ _ (hs c)] at b
  exact ⟨a, b, k⟩

end Cert.ReferenceIdeal.Hand

end
-- ==== Proof.Value.Sliver.lean ====
module

public import proofs.«01_k».proof.Pre_no_sliver
public import proofs.«01_k».proof.Proof.Value.Nms
public import Idealize.ShloMosaic.Lib.Pipeline.Value

@[expose] public section

noncomputable section

/-!
# What the precondition says

The precondition decodes every box once more, proposal by class, and asks of its area that it is zero or not below the
smallest divisor of the overlap quotient. Read at a proposal and a class, that is `NoSliver` of the box of `Nms`.
-/

namespace Cert.Pre_no_sliver

open Idealize.ShloMosaic Idealize.ShloMosaic.ValueIdx

theorem facts : Facts := by constructor <;> decide

variable [Facts]
open Facts

/-! ## What it reads -/

/-- One edge of the proposals, repeated for every class. -/
def column (x0 : FVec Ideal S1000x4 .f32) (k : Fin 4) (h : S1000x4.Slices ![0, k.val] S1000x1) : FVec Ideal S1000x20 .f32 :=
  broadcastInDim S1000x20 ![0, 1] bcast_S1000x1_S1000x20_0_1 (extractStridedSlice S1000x1 ![0, k.val] x0 h)

theorem column_apply (x0 : FVec Ideal S1000x4 .f32) (k : Fin 4) (h : S1000x4.Slices ![0, k.val] S1000x1) (r : Fin 1000) (q : Fin 20) :
    column x0 k h (ix2 r q) = x0 (ix2 r k) := by
  refine (broadcastInDim_apply _ bcast_S1000x1_S1000x20_0_1 _ (ix2 r q) (ix2 r 0) fun a => ?_).trans ?_
  · match a with
    | ⟨0, _⟩ => rfl
    | ⟨1, _⟩ => rfl
  · refine congrArg x0 (funext fun a => Fin.ext ?_)
    match a with
    | ⟨0, _⟩ => simp [ix2]
    | ⟨1, _⟩ => simp [ix2]

/-- One of the four offsets of every class but the first. -/
def offset (x1 : FVec Ideal S1000x84 .f32) (k : Fin 4) (h : S1000x20x4.Slices ![0, 0, k.val] S1000x20x1) : FVec Ideal S1000x20 .f32 :=
  shapeCast S1000x20 (extractStridedSlice S1000x20x1 ![0, 0, k.val]
    (extractStridedSlice S1000x20x4 ![0, 1, 0] (shapeCast S1000x21x4 x1 shapeCasts_S1000x84_S1000x21x4) slices_S1000x21x4_S1000x20x4_0_1_0) h)
    shapeCasts_S1000x20x1_S1000x20

theorem offset_apply (x1 : FVec Ideal S1000x84 .f32) (k : Fin 4) (h : S1000x20x4.Slices ![0, 0, k.val] S1000x20x1) (r : Fin 1000) (q : Fin 20) :
    offset x1 k h (ix2 r q) = x1 (ix2 r ⟨4 * (q.val + 1) + k.val, by omega⟩) := by
  refine (shapeCast_apply _ shapeCasts_S1000x20x1_S1000x20 (ix2 r q) (ix3 r q 0) ?_).trans ?_
  · rw [Shape.rowMajor_val_three, Shape.rowMajor_val_two]
    show (r.val * 20 + q.val) * 1 + 0 = r.val * 20 + q.val
    omega
  refine shapeCast_apply x1 shapeCasts_S1000x84_S1000x21x4 _ (ix2 r ⟨4 * (q.val + 1) + k.val, by omega⟩) ?_
  rw [Shape.rowMajor_val_three, Shape.rowMajor_val_two]
  show r.val * 84 + (4 * (q.val + 1) + k.val) = ((0 + (0 + r.val)) * 21 + (1 + (0 + q.val))) * 4 + (0 + (k.val + 0))
  omega

/-! ## What it decides -/

/-- Clipping in the order the precondition writes it. -/
theorem clip_swap (z M : EReal) : min (max z (Ideal.ofBits .f32 0x00000000#32)) M = min M (max 0 z) := by
  rw [Ideal.ofBits_zero_f32, min_comm, max_comm]

theorem or_one (a b : BitVec 1) : a ||| b = 1#1 → a = 1#1 ∨ b = 1#1 := by
  revert a b; decide

/-- The test of one area. -/
theorem test_one (a : EReal) (h : Ideal.cmp .oeq a (Ideal.ofBits .f32 0x00000000#32) ||| Ideal.cmp .oge a Nms.tiny = 1#1) :
    a = 0 ∨ Nms.tiny ≤ a := by
  rw [Ideal.ofBits_zero_f32] at h
  rcases or_one _ _ h with h | h
  · exact .inl (by by_contra hn; simp [Ideal.cmp, hn] at h)
  · exact .inr (by by_contra hn; simp [Ideal.cmp, hn] at h)

section edges

variable (M d e a b : EReal)

/-- The two edges as the precondition clips them. -/
def low : EReal := min (max (Nms.center d a b - Nms.half * Nms.extent e a b) (Ideal.ofBits .f32 0x00000000#32)) M
def high : EReal := min (max (Nms.center d a b + Nms.half * Nms.extent e a b) (Ideal.ofBits .f32 0x00000000#32)) M

theorem low_eq : low M d e a b = Nms.lowEdge M d e a b := clip_swap _ _
theorem high_eq : high M d e a b = Nms.highEdge M d e a b := clip_swap _ _

end edges

/-- The area test from the arrays of edges and offsets on, at one index. -/
theorem part_apply (p0 p1 p2 p3 d0 d1 d2 d3 : FVec Ideal S1000x20 .f32) (y : S1000x20.Idx) :
    fn_part1 (F := Ideal) p0 p1 d1 d2 d3 (subf p2 p0) (subf p3 p1) (mulf d0 (subf p2 p0))
      (mulf (broadcastInDim S1000x20 ![] bcast_S_S1000x20 (constant S_ .f32 0x3F000000#32)) (subf p2 p0)) y
    = Ideal.cmp .oeq (Nms.Box.area ⟨low Nms.height (d0 y) (d2 y) (p0 y) (p2 y), low Nms.width (d1 y) (d3 y) (p1 y) (p3 y),
          high Nms.height (d0 y) (d2 y) (p0 y) (p2 y), high Nms.width (d1 y) (d3 y) (p1 y) (p3 y)⟩) (Ideal.ofBits .f32 0x00000000#32)
      ||| Ideal.cmp .oge (Nms.Box.area ⟨low Nms.height (d0 y) (d2 y) (p0 y) (p2 y), low Nms.width (d1 y) (d3 y) (p1 y) (p3 y),
          high Nms.height (d0 y) (d2 y) (p0 y) (p2 y), high Nms.width (d1 y) (d3 y) (p1 y) (p3 y)⟩) Nms.tiny := by
  simp only [Nms.Box.area, ← Ideal.ofBits_zero_f32]
  rfl

/-- The test of one box: of the proposal's four edges and its four offsets for the class. -/
def boxBit (p0 p1 p2 p3 d0 d1 d2 d3 : FVec Ideal S1000x20 .f32) : IVec S1000x20 1 :=
  fn_part1 (F := Ideal) p0 p1 d1 d2 d3 (subf p2 p0) (subf p3 p1) (mulf d0 (subf p2 p0))
    (mulf (broadcastInDim S1000x20 ![] bcast_S_S1000x20 (constant S_ .f32 0x3F000000#32)) (subf p2 p0))

theorem fn_eq (x0 : FVec Ideal S1000x4 .f32) (x1 : FVec Ideal S1000x84 .f32) (x2 : FVec Ideal S1000x21 .f32) :
    fn (F := Ideal) x0 x1 x2 = boxBit (column x0 0 slices_S1000x4_S1000x1_0_0) (column x0 1 slices_S1000x4_S1000x1_0_1)
      (column x0 2 slices_S1000x4_S1000x1_0_2) (column x0 3 slices_S1000x4_S1000x1_0_3)
      (offset x1 0 slices_S1000x20x4_S1000x20x1_0_0_0) (offset x1 1 slices_S1000x20x4_S1000x20x1_0_0_1)
      (offset x1 2 slices_S1000x20x4_S1000x20x1_0_0_2) (offset x1 3 slices_S1000x20x4_S1000x20x1_0_0_3) := rfl

theorem no_sliver (x0 : FVec Ideal S1000x4 .f32) (x1 : FVec Ideal S1000x84 .f32) (x2 : FVec Ideal S1000x21 .f32)
    (h : fn (F := Ideal) x0 x1 x2 = fun _ => 1#1) (q : Fin 20) (r : Fin 1000) : (Nms.box x0 x1 q r).NoSliver := by
  have e := congrFun h (ix2 r q)
  rw [fn_eq, boxBit, part_apply] at e
  have t := test_one _ e
  rw [low_eq, low_eq, high_eq, high_eq, column_apply, column_apply, column_apply, column_apply,
    offset_apply, offset_apply, offset_apply, offset_apply] at t
  exact t

end Cert.Pre_no_sliver

end
-- ==== Proof.Value.Algebraic.lean ====
module

public import proofs.«01_k».proof.Defs
public import proofs.«01_k».proof.Proof.Value.Arrays
public import proofs.«01_k».proof.Proof.Value.RefRun
public import proofs.«01_k».proof.Proof.Value.Sliver

@[expose] public section

noncomputable section

namespace Cert.Proof

open Idealize.ShloMosaic Idealize.SL.Sem

/-- From equal arguments without slivers the two programs end with equal results: the boxes, and the scores left after
    suppression. -/
theorem algebraic : Cert.algebraic_KernelIdeal_ReferenceIdeal_pre_no_sliver (hKernelIdeal := Cert.KernelIdeal.Gen.facts)
    (hReferenceIdeal := Cert.ReferenceIdeal.Gen.facts) (hPre_no_sliver := Cert.Pre_no_sliver.facts) :=
  fun m g m' g' hpre hargs => ⟨Cert.KernelIdeal.Hand.allBoxes m, Cert.KernelIdeal.Hand.scores m,
    Cert.KernelIdeal.Hand.kernel_run m g,
    Cert.ReferenceIdeal.Hand.ref_run m' g' (Cert.KernelIdeal.Hand.arg0 m) (Cert.KernelIdeal.Hand.arg1 m)
      (Cert.KernelIdeal.Hand.arg2 m) (fun c => (hargs c).1) (fun c => (hargs c).2.1) (fun c => (hargs c).2.2)
      (fun c p r => @Cert.Pre_no_sliver.no_sliver Cert.Pre_no_sliver.facts _ _ _ (hpre c) p r)⟩

end Cert.Proof

end
-- ==== Proof.lean ====
/- The certificate of the decode-and-suppress kernel: it, its idealization and the reference leave their arguments
   and every counter as they found them, the idealization keeps the constants it names, and its two results are the
   reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Ideal.Launch
public import proofs.«01_k».proof.Proof.Kernel.Launch
public import proofs.«01_k».proof.Proof.Frames
public import proofs.«01_k».proof.Proof.Value.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_no_sliver.facts,
  fun m ρ _ => Cert.Kernel.Hand.frame m ρ,
  fun m ρ _ => Cert.KernelIdeal.Hand.frame m ρ,
  fun m ρ _ => Cert.KernelIdeal.Hand.frame m ρ,
  reference_frame,
  fun m ρ _ => reference_frame m ρ trivial,
  preserves, algebraic⟩

end Cert.Proof

end
